-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v207)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v207) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v348) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8x3x512x512 : Shape := ⟨5, ![4, 8, 3, 512, 512]⟩
abbrev S_ : Shape := ⟨0, ![]⟩

class Facts : Prop where
  bcast_S_S4x8x3x512x512 : S_.BroadcastsInDim S4x8x3x512x512 (![] : Fin 0 → Fin S4x8x3x512x512.rank)
  reducesTo_S4x8x3x512x512_S_d0_1_2_3_4 : S4x8x3x512x512.ReducesTo [0, 1, 2, 3, 4] S_
  h_S_ : 0 < S_.numel

variable [Facts]

def fn {F : FTy → Type} [FloatOps F] (main_arg0 : FVec F S4x8x3x512x512 .f32) : IVec S_ 1 :=
  let main_v0 : FVec F S4x8x3x512x512 .f32 := Host.absf main_arg0
  let main_cst : FVec F S_ .f32 := constant S_ .f32 0x7F800000#32
  let main_v1 : FVec F S4x8x3x512x512 .f32 := broadcastInDim S4x8x3x512x512 ![] bcast_S_S4x8x3x512x512 main_cst
  let main_v2 : IVec S4x8x3x512x512 1 := cmpf .olt main_v0 main_v1
  let main_c : IVec S_ 1 := constantI S_ 1 1#1
  let main_v3 : IVec S_ 1 := (fun x v => Host.reduce IntOp.andi x v reducesTo_S4x8x3x512x512_S_d0_1_2_3_4 h_S_) main_v2 main_c
  main_v3
-- ==== Kernel.lean ====
abbrev S4x8x3x512x512 : Shape := ⟨5, ![4, 8, 3, 512, 512]⟩
abbrev S512x512 : Shape := ⟨2, ![512, 512]⟩
abbrev S_ : Shape := ⟨0, ![]⟩
abbrev S512x1024 : Shape := ⟨2, ![512, 1024]⟩
abbrev S4x3x512x512 : Shape := ⟨4, ![4, 3, 512, 512]⟩
abbrev S1x4x3x512x512 : Shape := ⟨5, ![1, 4, 3, 512, 512]⟩
abbrev S1x3x512x512 : Shape := ⟨4, ![1, 3, 512, 512]⟩
abbrev S1x1x1x512x512 : Shape := ⟨5, ![1, 1, 1, 512, 512]⟩
abbrev S1x512 : Shape := ⟨2, ![1, 512]⟩
abbrev S516x512 : Shape := ⟨2, ![516, 512]⟩
abbrev S516x1024 : Shape := ⟨2, ![516, 1024]⟩
abbrev S1x1x512x512 : Shape := ⟨4, ![1, 1, 512, 512]⟩

abbrev nBuf : Space → Nat
  | .hbm => 316
  | .vmem => 7
  | .smem => 0
  | _ => 0

abbrev hbmTy0_0 (i : Nat) : BufTy := match i % 128 with
  | 0 => ⟨S4x8x3x512x512, .f32⟩
  | 1 => ⟨S512x512, .i32⟩
  | 2 => ⟨S512x512, .i32⟩
  | 3 => ⟨S_, .f32⟩
  | 4 => ⟨S512x512, .f32⟩
  | 5 => ⟨S_, .i32⟩
  | 6 => ⟨S512x512, .i32⟩
  | 7 => ⟨S512x512, .i32⟩
  | 8 => ⟨S_, .i32⟩
  | 9 => ⟨S512x512, .i32⟩
  | 10 => ⟨S512x512, .i1⟩
  | 11 => ⟨S512x512, .i32⟩
  | 12 => ⟨S_, .i32⟩
  | 13 => ⟨S512x512, .i32⟩
  | 14 => ⟨S512x512, .i1⟩
  | 15 => ⟨S_, .i32⟩
  | 16 => ⟨S512x512, .i32⟩
  | 17 => ⟨S512x512, .i32⟩
  | 18 => ⟨S512x512, .i32⟩
  | 19 => ⟨S512x512, .i32⟩
  | 20 => ⟨S512x512, .i1⟩
  | 21 => ⟨S_, .f32⟩
  | 22 => ⟨S_, .f32⟩
  | 23 => ⟨S512x512, .f32⟩
  | 24 => ⟨S512x512, .f32⟩
  | 25 => ⟨S512x512, .f32⟩
  | 26 => ⟨S512x512, .f32⟩
  | 27 => ⟨S512x512, .f32⟩
  | 28 => ⟨S_, .i32⟩
  | 29 => ⟨S512x512, .i32⟩
  | 30 => ⟨S512x512, .i32⟩
  | 31 => ⟨S_, .i32⟩
  | 32 => ⟨S512x512, .i32⟩
  | 33 => ⟨S512x512, .i1⟩
  | 34 => ⟨S512x512, .i32⟩
  | 35 => ⟨S_, .i32⟩
  | 36 => ⟨S512x512, .i32⟩
  | 37 => ⟨S512x512, .i1⟩
  | 38 => ⟨S_, .i32⟩
  | 39 => ⟨S512x512, .i32⟩
  | 40 => ⟨S512x512, .i32⟩
  | 41 => ⟨S512x512, .i32⟩
  | 42 => ⟨S512x512, .i32⟩
  | 43 => ⟨S512x512, .i1⟩
  | 44 => ⟨S_, .f32⟩
  | 45 => ⟨S_, .f32⟩
  | 46 => ⟨S512x512, .f32⟩
  | 47 => ⟨S512x512, .f32⟩
  | 48 => ⟨S512x512, .f32⟩
  | 49 => ⟨S512x512, .f32⟩
  | 50 => ⟨S512x512, .f32⟩
  | 51 => ⟨S_, .i32⟩
  | 52 => ⟨S512x512, .i32⟩
  | 53 => ⟨S512x512, .i32⟩
  | 54 => ⟨S_, .i32⟩
  | 55 => ⟨S512x512, .i32⟩
  | 56 => ⟨S512x512, .i1⟩
  | 57 => ⟨S512x512, .i32⟩
  | 58 => ⟨S_, .i32⟩
  | 59 => ⟨S512x512, .i32⟩
  | 60 => ⟨S512x512, .i1⟩
  | 61 => ⟨S_, .i32⟩
  | 62 => ⟨S512x512, .i32⟩
  | 63 => ⟨S512x512, .i32⟩
  | 64 => ⟨S512x512, .i32⟩
  | 65 => ⟨S512x512, .i32⟩
  | 66 => ⟨S512x512, .i1⟩
  | 67 => ⟨S_, .f32⟩
  | 68 => ⟨S_, .f32⟩
  | 69 => ⟨S512x512, .f32⟩
  | 70 => ⟨S512x512, .f32⟩
  | 71 => ⟨S512x512, .f32⟩
  | 72 => ⟨S512x512, .f32⟩
  | 73 => ⟨S512x512, .f32⟩
  | 74 => ⟨S_, .i32⟩
  | 75 => ⟨S512x512, .i32⟩
  | 76 => ⟨S512x512, .i32⟩
  | 77 => ⟨S_, .i32⟩
  | 78 => ⟨S512x512, .i32⟩
  | 79 => ⟨S512x512, .i1⟩
  | 80 => ⟨S512x512, .i32⟩
  | 81 => ⟨S_, .i32⟩
  | 82 => ⟨S512x512, .i32⟩
  | 83 => ⟨S512x512, .i1⟩
  | 84 => ⟨S_, .i32⟩
  | 85 => ⟨S512x512, .i32⟩
  | 86 => ⟨S512x512, .i32⟩
  | 87 => ⟨S512x512, .i32⟩
  | 88 => ⟨S512x512, .i32⟩
  | 89 => ⟨S512x512, .i1⟩
  | 90 => ⟨S_, .f32⟩
  | 91 => ⟨S_, .f32⟩
  | 92 => ⟨S512x512, .f32⟩
  | 93 => ⟨S512x512, .f32⟩
  | 94 => ⟨S512x512, .f32⟩
  | 95 => ⟨S512x512, .f32⟩
  | 96 => ⟨S512x512, .f32⟩
  | 97 => ⟨S_, .i32⟩
  | 98 => ⟨S512x512, .i32⟩
  | 99 => ⟨S512x512, .i32⟩
  | 100 => ⟨S_, .i32⟩
  | 101 => ⟨S512x512, .i32⟩
  | 102 => ⟨S512x512, .i1⟩
  | 103 => ⟨S512x512, .i32⟩
  | 104 => ⟨S_, .i32⟩
  | 105 => ⟨S512x512, .i32⟩
  | 106 => ⟨S512x512, .i1⟩
  | 107 => ⟨S_, .i32⟩
  | 108 => ⟨S512x512, .i32⟩
  | 109 => ⟨S512x512, .i32⟩
  | 110 => ⟨S512x512, .i32⟩
  | 111 => ⟨S512x512, .i32⟩
  | 112 => ⟨S512x512, .i1⟩
  | 113 => ⟨S_, .f32⟩
  | 114 => ⟨S_, .f32⟩
  | 115 => ⟨S512x512, .f32⟩
  | 116 => ⟨S512x512, .f32⟩
  | 117 => ⟨S512x512, .f32⟩
  | 118 => ⟨S512x512, .f32⟩
  | 119 => ⟨S512x512, .f32⟩
  | 120 => ⟨S512x512, .bf16⟩
  | 121 => ⟨S512x512, .i32⟩
  | 122 => ⟨S512x512, .i32⟩
  | 123 => ⟨S_, .f32⟩
  | 124 => ⟨S512x512, .f32⟩
  | 125 => ⟨S_, .i32⟩
  | 126 => ⟨S512x512, .i32⟩
  | 127 => ⟨S512x512, .i32⟩
  | _ => ⟨S4x8x3x512x512, .f32⟩

abbrev hbmTy0_1 (i : Nat) : BufTy := match i % 128 with
  | 0 => ⟨S_, .i32⟩
  | 1 => ⟨S512x512, .i32⟩
  | 2 => ⟨S512x512, .i1⟩
  | 3 => ⟨S512x512, .i32⟩
  | 4 => ⟨S_, .i32⟩
  | 5 => ⟨S512x512, .i32⟩
  | 6 => ⟨S512x512, .i1⟩
  | 7 => ⟨S_, .i32⟩
  | 8 => ⟨S512x512, .i32⟩
  | 9 => ⟨S512x512, .i32⟩
  | 10 => ⟨S512x512, .i32⟩
  | 11 => ⟨S512x512, .i32⟩
  | 12 => ⟨S512x512, .i1⟩
  | 13 => ⟨S_, .f32⟩
  | 14 => ⟨S_, .f32⟩
  | 15 => ⟨S512x512, .f32⟩
  | 16 => ⟨S512x512, .f32⟩
  | 17 => ⟨S512x512, .f32⟩
  | 18 => ⟨S512x512, .f32⟩
  | 19 => ⟨S512x512, .f32⟩
  | 20 => ⟨S_, .i32⟩
  | 21 => ⟨S512x512, .i32⟩
  | 22 => ⟨S512x512, .i32⟩
  | 23 => ⟨S_, .i32⟩
  | 24 => ⟨S512x512, .i32⟩
  | 25 => ⟨S512x512, .i1⟩
  | 26 => ⟨S512x512, .i32⟩
  | 27 => ⟨S_, .i32⟩
  | 28 => ⟨S512x512, .i32⟩
  | 29 => ⟨S512x512, .i1⟩
  | 30 => ⟨S_, .i32⟩
  | 31 => ⟨S512x512, .i32⟩
  | 32 => ⟨S512x512, .i32⟩
  | 33 => ⟨S512x512, .i32⟩
  | 34 => ⟨S512x512, .i32⟩
  | 35 => ⟨S512x512, .i1⟩
  | 36 => ⟨S_, .f32⟩
  | 37 => ⟨S_, .f32⟩
  | 38 => ⟨S512x512, .f32⟩
  | 39 => ⟨S512x512, .f32⟩
  | 40 => ⟨S512x512, .f32⟩
  | 41 => ⟨S512x512, .f32⟩
  | 42 => ⟨S512x512, .f32⟩
  | 43 => ⟨S_, .i32⟩
  | 44 => ⟨S512x512, .i32⟩
  | 45 => ⟨S512x512, .i32⟩
  | 46 => ⟨S_, .i32⟩
  | 47 => ⟨S512x512, .i32⟩
  | 48 => ⟨S512x512, .i1⟩
  | 49 => ⟨S512x512, .i32⟩
  | 50 => ⟨S_, .i32⟩
  | 51 => ⟨S512x512, .i32⟩
  | 52 => ⟨S512x512, .i1⟩
  | 53 => ⟨S_, .i32⟩
  | 54 => ⟨S512x512, .i32⟩
  | 55 => ⟨S512x512, .i32⟩
  | 56 => ⟨S512x512, .i32⟩
  | 57 => ⟨S512x512, .i32⟩
  | 58 => ⟨S512x512, .i1⟩
  | 59 => ⟨S_, .f32⟩
  | 60 => ⟨S_, .f32⟩
  | 61 => ⟨S512x512, .f32⟩
  | 62 => ⟨S512x512, .f32⟩
  | 63 => ⟨S512x512, .f32⟩
  | 64 => ⟨S512x512, .f32⟩
  | 65 => ⟨S512x512, .f32⟩
  | 66 => ⟨S512x512, .i32⟩
  | 67 => ⟨S512x512, .i32⟩
  | 68 => ⟨S_, .f32⟩
  | 69 => ⟨S512x512, .f32⟩
  | 70 => ⟨S_, .i32⟩
  | 71 => ⟨S512x512, .i32⟩
  | 72 => ⟨S512x512, .i32⟩
  | 73 => ⟨S_, .i32⟩
  | 74 => ⟨S512x512, .i32⟩
  | 75 => ⟨S512x512, .i1⟩
  | 76 => ⟨S512x512, .i32⟩
  | 77 => ⟨S_, .i32⟩
  | 78 => ⟨S512x512, .i32⟩
  | 79 => ⟨S512x512, .i1⟩
  | 80 => ⟨S_, .i32⟩
  | 81 => ⟨S512x512, .i32⟩
  | 82 => ⟨S512x512, .i32⟩
  | 83 => ⟨S512x512, .i32⟩
  | 84 => ⟨S512x512, .i32⟩
  | 85 => ⟨S512x512, .i1⟩
  | 86 => ⟨S_, .f32⟩
  | 87 => ⟨S_, .f32⟩
  | 88 => ⟨S512x512, .f32⟩
  | 89 => ⟨S512x512, .f32⟩
  | 90 => ⟨S512x512, .f32⟩
  | 91 => ⟨S512x512, .f32⟩
  | 92 => ⟨S512x512, .f32⟩
  | 93 => ⟨S_, .i32⟩
  | 94 => ⟨S512x512, .i32⟩
  | 95 => ⟨S512x512, .i32⟩
  | 96 => ⟨S_, .i32⟩
  | 97 => ⟨S512x512, .i32⟩
  | 98 => ⟨S512x512, .i1⟩
  | 99 => ⟨S512x512, .i32⟩
  | 100 => ⟨S_, .i32⟩
  | 101 => ⟨S512x512, .i32⟩
  | 102 => ⟨S512x512, .i1⟩
  | 103 => ⟨S_, .i32⟩
  | 104 => ⟨S512x512, .i32⟩
  | 105 => ⟨S512x512, .i32⟩
  | 106 => ⟨S512x512, .i32⟩
  | 107 => ⟨S512x512, .i32⟩
  | 108 => ⟨S512x512, .i1⟩
  | 109 => ⟨S_, .f32⟩
  | 110 => ⟨S_, .f32⟩
  | 111 => ⟨S512x512, .f32⟩
  | 112 => ⟨S512x512, .f32⟩
  | 113 => ⟨S512x512, .f32⟩
  | 114 => ⟨S512x512, .f32⟩
  | 115 => ⟨S512x512, .f32⟩
  | 116 => ⟨S_, .i32⟩
  | 117 => ⟨S512x512, .i32⟩
  | 118 => ⟨S512x512, .i32⟩
  | 119 => ⟨S_, .i32⟩
  | 120 => ⟨S512x512, .i32⟩
  | 121 => ⟨S512x512, .i1⟩
  | 122 => ⟨S512x512, .i32⟩
  | 123 => ⟨S_, .i32⟩
  | 124 => ⟨S512x512, .i32⟩
  | 125 => ⟨S512x512, .i1⟩
  | 126 => ⟨S_, .i32⟩
  | 127 => ⟨S512x512, .i32⟩
  | _ => ⟨S4x8x3x512x512, .f32⟩

abbrev hbmTy0_2 (i : Nat) : BufTy := match i % 128 with
  | 0 => ⟨S512x512, .i32⟩
  | 1 => ⟨S512x512, .i32⟩
  | 2 => ⟨S512x512, .i32⟩
  | 3 => ⟨S512x512, .i1⟩
  | 4 => ⟨S_, .f32⟩
  | 5 => ⟨S_, .f32⟩
  | 6 => ⟨S512x512, .f32⟩
  | 7 => ⟨S512x512, .f32⟩
  | 8 => ⟨S512x512, .f32⟩
  | 9 => ⟨S512x512, .f32⟩
  | 10 => ⟨S512x512, .f32⟩
  | 11 => ⟨S_, .i32⟩
  | 12 => ⟨S512x512, .i32⟩
  | 13 => ⟨S512x512, .i32⟩
  | 14 => ⟨S_, .i32⟩
  | 15 => ⟨S512x512, .i32⟩
  | 16 => ⟨S512x512, .i1⟩
  | 17 => ⟨S512x512, .i32⟩
  | 18 => ⟨S_, .i32⟩
  | 19 => ⟨S512x512, .i32⟩
  | 20 => ⟨S512x512, .i1⟩
  | 21 => ⟨S_, .i32⟩
  | 22 => ⟨S512x512, .i32⟩
  | 23 => ⟨S512x512, .i32⟩
  | 24 => ⟨S512x512, .i32⟩
  | 25 => ⟨S512x512, .i32⟩
  | 26 => ⟨S512x512, .i1⟩
  | 27 => ⟨S_, .f32⟩
  | 28 => ⟨S_, .f32⟩
  | 29 => ⟨S512x512, .f32⟩
  | 30 => ⟨S512x512, .f32⟩
  | 31 => ⟨S512x512, .f32⟩
  | 32 => ⟨S512x512, .f32⟩
  | 33 => ⟨S512x512, .f32⟩
  | 34 => ⟨S_, .i32⟩
  | 35 => ⟨S512x512, .i32⟩
  | 36 => ⟨S512x512, .i32⟩
  | 37 => ⟨S_, .i32⟩
  | 38 => ⟨S512x512, .i32⟩
  | 39 => ⟨S512x512, .i1⟩
  | 40 => ⟨S512x512, .i32⟩
  | 41 => ⟨S_, .i32⟩
  | 42 => ⟨S512x512, .i32⟩
  | 43 => ⟨S512x512, .i1⟩
  | 44 => ⟨S_, .i32⟩
  | 45 => ⟨S512x512, .i32⟩
  | 46 => ⟨S512x512, .i32⟩
  | 47 => ⟨S512x512, .i32⟩
  | 48 => ⟨S512x512, .i32⟩
  | 49 => ⟨S512x512, .i1⟩
  | 50 => ⟨S_, .f32⟩
  | 51 => ⟨S_, .f32⟩
  | 52 => ⟨S512x512, .f32⟩
  | 53 => ⟨S512x512, .f32⟩
  | 54 => ⟨S512x512, .f32⟩
  | 55 => ⟨S512x512, .f32⟩
  | 56 => ⟨S512x512, .f32⟩
  | 57 => ⟨S512x1024, .f32⟩
  | 58 => ⟨S512x1024, .bf16⟩
  | 59 => ⟨S4x3x512x512, .f32⟩
  | _ => ⟨S4x8x3x512x512, .f32⟩

abbrev hbmTy (i : Nat) : BufTy := match i / 128 with
  | 0 => hbmTy0_0 i
  | 1 => hbmTy0_1 i
  | 2 => hbmTy0_2 i
  | _ => ⟨S4x8x3x512x512, .f32⟩

abbrev bufTy : (tb : Table) → Fin (tcTables nBuf tb) → BufTy
  | .hbm, ⟨i, _⟩ => hbmTy i
  | .local _ .vmem, ⟨0, _⟩ => ⟨S1x4x3x512x512, .f32⟩
  | .local _ .vmem, ⟨1, _⟩ => ⟨S1x4x3x512x512, .f32⟩
  | .local _ .vmem, ⟨2, _⟩ => ⟨S512x512, .bf16⟩
  | .local _ .vmem, ⟨3, _⟩ => ⟨S512x1024, .bf16⟩
  | .local _ .vmem, ⟨4, _⟩ => ⟨S1x3x512x512, .f32⟩
  | .local _ .vmem, ⟨5, _⟩ => ⟨S1x3x512x512, .f32⟩
  | .local _ .vmem, ⟨6, _⟩ => ⟨S512x512, .f32⟩
  | _, _ => ⟨S4x8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_cst_4 : Ref sig .tc := ⟨.hbm, 22, rfl⟩
abbrev main_call2_v0 : Ref sig .tc := ⟨.hbm, 23, rfl⟩
abbrev main_call2_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_c_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_cst_10 : Ref sig .tc := ⟨.hbm, 45, rfl⟩
abbrev main_call5_v0 : Ref sig .tc := ⟨.hbm, 46, rfl⟩
abbrev main_call5_v1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_11 : Ref sig .tc := ⟨.hbm, 51, rfl⟩
abbrev main_v33 : Ref sig .tc := ⟨.hbm, 52, rfl⟩
abbrev main_v34 : Ref sig .tc := ⟨.hbm, 53, rfl⟩
abbrev main_c_12 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_13 : Ref sig .tc := ⟨.hbm, 58, rfl⟩
abbrev main_v38 : Ref sig .tc := ⟨.hbm, 59, rfl⟩
abbrev main_v39 : Ref sig .tc := ⟨.hbm, 60, rfl⟩
abbrev main_c_14 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_15 : Ref sig .tc := ⟨.hbm, 67, rfl⟩
abbrev main_cst_16 : Ref sig .tc := ⟨.hbm, 68, rfl⟩
abbrev main_call8_v0 : Ref sig .tc := ⟨.hbm, 69, rfl⟩
abbrev main_call8_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_17 : Ref sig .tc := ⟨.hbm, 74, rfl⟩
abbrev main_v48 : Ref sig .tc := ⟨.hbm, 75, rfl⟩
abbrev main_v49 : Ref sig .tc := ⟨.hbm, 76, rfl⟩
abbrev main_c_18 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_19 : Ref sig .tc := ⟨.hbm, 81, rfl⟩
abbrev main_v53 : Ref sig .tc := ⟨.hbm, 82, rfl⟩
abbrev main_v54 : Ref sig .tc := ⟨.hbm, 83, rfl⟩
abbrev main_c_20 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_21 : Ref sig .tc := ⟨.hbm, 90, rfl⟩
abbrev main_cst_22 : Ref sig .tc := ⟨.hbm, 91, rfl⟩
abbrev main_call11_v0 : Ref sig .tc := ⟨.hbm, 92, rfl⟩
abbrev main_call11_v1 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_23 : Ref sig .tc := ⟨.hbm, 97, rfl⟩
abbrev main_v63 : Ref sig .tc := ⟨.hbm, 98, rfl⟩
abbrev main_v64 : Ref sig .tc := ⟨.hbm, 99, rfl⟩
abbrev main_c_24 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_25 : Ref sig .tc := ⟨.hbm, 104, rfl⟩
abbrev main_v68 : Ref sig .tc := ⟨.hbm, 105, rfl⟩
abbrev main_v69 : Ref sig .tc := ⟨.hbm, 106, rfl⟩
abbrev main_c_26 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_27 : Ref sig .tc := ⟨.hbm, 113, rfl⟩
abbrev main_cst_28 : Ref sig .tc := ⟨.hbm, 114, rfl⟩
abbrev main_call14_v0 : Ref sig .tc := ⟨.hbm, 115, rfl⟩
abbrev main_call14_v1 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_29 : Ref sig .tc := ⟨.hbm, 123, rfl⟩
abbrev main_v81 : Ref sig .tc := ⟨.hbm, 124, rfl⟩
abbrev main_c_30 : Ref sig .tc := ⟨.hbm, 125, rfl⟩
abbrev main_v82 : Ref sig .tc := ⟨.hbm, 126, rfl⟩
abbrev main_v83 : Ref sig .tc := ⟨.hbm, 127, rfl⟩
abbrev main_c_31 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_32 : Ref sig .tc := ⟨.hbm, 132, rfl⟩
abbrev main_v87 : Ref sig .tc := ⟨.hbm, 133, rfl⟩
abbrev main_v88 : Ref sig .tc := ⟨.hbm, 134, rfl⟩
abbrev main_c_33 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_34 : Ref sig .tc := ⟨.hbm, 141, rfl⟩
abbrev main_cst_35 : Ref sig .tc := ⟨.hbm, 142, rfl⟩
abbrev main_call17_v0 : Ref sig .tc := ⟨.hbm, 143, rfl⟩
abbrev main_call17_v1 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_c_36 : Ref sig .tc := ⟨.hbm, 148, rfl⟩
abbrev main_v97 : Ref sig .tc := ⟨.hbm, 149, rfl⟩
abbrev main_v98 : Ref sig .tc := ⟨.hbm, 150, rfl⟩
abbrev main_c_37 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_c_38 : Ref sig .tc := ⟨.hbm, 155, rfl⟩
abbrev main_v102 : Ref sig .tc := ⟨.hbm, 156, rfl⟩
abbrev main_v103 : Ref sig .tc := ⟨.hbm, 157, rfl⟩
abbrev main_c_39 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_40 : Ref sig .tc := ⟨.hbm, 164, rfl⟩
abbrev main_cst_41 : Ref sig .tc := ⟨.hbm, 165, rfl⟩
abbrev main_call20_v0 : Ref sig .tc := ⟨.hbm, 166, rfl⟩
abbrev main_call20_v1 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_42 : Ref sig .tc := ⟨.hbm, 171, rfl⟩
abbrev main_v112 : Ref sig .tc := ⟨.hbm, 172, rfl⟩
abbrev main_v113 : Ref sig .tc := ⟨.hbm, 173, rfl⟩
abbrev main_c_43 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_c_44 : Ref sig .tc := ⟨.hbm, 178, rfl⟩
abbrev main_v117 : Ref sig .tc := ⟨.hbm, 179, rfl⟩
abbrev main_v118 : Ref sig .tc := ⟨.hbm, 180, rfl⟩
abbrev main_c_45 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_cst_46 : Ref sig .tc := ⟨.hbm, 187, rfl⟩
abbrev main_cst_47 : Ref sig .tc := ⟨.hbm, 188, rfl⟩
abbrev main_call23_v0 : Ref sig .tc := ⟨.hbm, 189, rfl⟩
abbrev main_call23_v1 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_cst_48 : Ref sig .tc := ⟨.hbm, 196, rfl⟩
abbrev main_v129 : Ref sig .tc := ⟨.hbm, 197, rfl⟩
abbrev main_c_49 : Ref sig .tc := ⟨.hbm, 198, rfl⟩
abbrev main_v130 : Ref sig .tc := ⟨.hbm, 199, rfl⟩
abbrev main_v131 : Ref sig .tc := ⟨.hbm, 200, rfl⟩
abbrev main_c_50 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_c_51 : Ref sig .tc := ⟨.hbm, 205, rfl⟩
abbrev main_v135 : Ref sig .tc := ⟨.hbm, 206, rfl⟩
abbrev main_v136 : Ref sig .tc := ⟨.hbm, 207, rfl⟩
abbrev main_c_52 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_cst_53 : Ref sig .tc := ⟨.hbm, 214, rfl⟩
abbrev main_cst_54 : Ref sig .tc := ⟨.hbm, 215, rfl⟩
abbrev main_call26_v0 : Ref sig .tc := ⟨.hbm, 216, rfl⟩
abbrev main_call26_v1 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_c_55 : Ref sig .tc := ⟨.hbm, 221, rfl⟩
abbrev main_v145 : Ref sig .tc := ⟨.hbm, 222, rfl⟩
abbrev main_v146 : Ref sig .tc := ⟨.hbm, 223, rfl⟩
abbrev main_c_56 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_c_57 : Ref sig .tc := ⟨.hbm, 228, rfl⟩
abbrev main_v150 : Ref sig .tc := ⟨.hbm, 229, rfl⟩
abbrev main_v151 : Ref sig .tc := ⟨.hbm, 230, rfl⟩
abbrev main_c_58 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_cst_59 : Ref sig .tc := ⟨.hbm, 237, rfl⟩
abbrev main_cst_60 : Ref sig .tc := ⟨.hbm, 238, rfl⟩
abbrev main_call29_v0 : Ref sig .tc := ⟨.hbm, 239, rfl⟩
abbrev main_call29_v1 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_c_61 : Ref sig .tc := ⟨.hbm, 244, rfl⟩
abbrev main_v160 : Ref sig .tc := ⟨.hbm, 245, rfl⟩
abbrev main_v161 : Ref sig .tc := ⟨.hbm, 246, rfl⟩
abbrev main_c_62 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_c_63 : Ref sig .tc := ⟨.hbm, 251, rfl⟩
abbrev main_v165 : Ref sig .tc := ⟨.hbm, 252, rfl⟩
abbrev main_v166 : Ref sig .tc := ⟨.hbm, 253, rfl⟩
abbrev main_c_64 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_cst_65 : Ref sig .tc := ⟨.hbm, 260, rfl⟩
abbrev main_cst_66 : Ref sig .tc := ⟨.hbm, 261, rfl⟩
abbrev main_call32_v0 : Ref sig .tc := ⟨.hbm, 262, rfl⟩
abbrev main_call32_v1 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_c_67 : Ref sig .tc := ⟨.hbm, 267, rfl⟩
abbrev main_v175 : Ref sig .tc := ⟨.hbm, 268, rfl⟩
abbrev main_v176 : Ref sig .tc := ⟨.hbm, 269, rfl⟩
abbrev main_c_68 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_c_69 : Ref sig .tc := ⟨.hbm, 274, rfl⟩
abbrev main_v180 : Ref sig .tc := ⟨.hbm, 275, rfl⟩
abbrev main_v181 : Ref sig .tc := ⟨.hbm, 276, rfl⟩
abbrev main_c_70 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_cst_71 : Ref sig .tc := ⟨.hbm, 283, rfl⟩
abbrev main_cst_72 : Ref sig .tc := ⟨.hbm, 284, rfl⟩
abbrev main_call35_v0 : Ref sig .tc := ⟨.hbm, 285, rfl⟩
abbrev main_call35_v1 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_c_73 : Ref sig .tc := ⟨.hbm, 290, rfl⟩
abbrev main_v190 : Ref sig .tc := ⟨.hbm, 291, rfl⟩
abbrev main_v191 : Ref sig .tc := ⟨.hbm, 292, rfl⟩
abbrev main_c_74 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_c_75 : Ref sig .tc := ⟨.hbm, 297, rfl⟩
abbrev main_v195 : Ref sig .tc := ⟨.hbm, 298, rfl⟩
abbrev main_v196 : Ref sig .tc := ⟨.hbm, 299, rfl⟩
abbrev main_c_76 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_cst_77 : Ref sig .tc := ⟨.hbm, 306, rfl⟩
abbrev main_cst_78 : Ref sig .tc := ⟨.hbm, 307, rfl⟩
abbrev main_call38_v0 : Ref sig .tc := ⟨.hbm, 308, rfl⟩
abbrev main_call38_v1 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v278 : BitVec 1 := Scalar.cmpi .eq arg1 c0_i32
  let v279 : BitVec 32 := Scalar.extui v278
  let c0_i32_111 : BitVec 32 := 0#32
  let v280 : BitVec 1 := Scalar.cmpi .ne v279 c0_i32_111
  v280

def k0_cond2 (i : grid0.Coords) : BitVec 1 :=
  let arg1 : BitVec 32 := BitVec.ofNat 32 (i 1).val
  let c0_i32_112 : BitVec 32 := 0#32
  let v281 : BitVec 1 := Scalar.cmpi .sgt arg1 c0_i32_112
  let v282 : BitVec 32 := Scalar.extui v281
  let c0_i32_113 : BitVec 32 := 0#32
  let v283 : BitVec 1 := Scalar.cmpi .ne v282 c0_i32_113
  v283

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "third" => some ((1 / 3 : ℝ) : EReal)
  | _ => none
-- ==== ReferenceIdeal.lean ====
abbrev S4x8x3x512x512 : Shape := ⟨5, ![4, 8, 3, 512, 512]⟩
abbrev S5 : Shape := ⟨1, ![5]⟩
abbrev S32x3x512x512 : Shape := ⟨4, ![32, 3, 512, 512]⟩
abbrev S_ : Shape := ⟨0, ![]⟩
abbrev S32x512x512 : Shape := ⟨3, ![32, 512, 512]⟩
abbrev S5x1 : Shape := ⟨2, ![5, 1]⟩
abbrev S1x5 : Shape := ⟨2, ![1, 5]⟩
abbrev S5x5 : Shape := ⟨2, ![5, 5]⟩
abbrev S32x1x512 : Shape := ⟨3, ![32, 1, 512]⟩
abbrev S32x2x512 : Shape := ⟨3, ![32, 2, 512]⟩
abbrev S32x514x512 : Shape := ⟨3, ![32, 514, 512]⟩
abbrev S32x516x512 : Shape := ⟨3, ![32, 516, 512]⟩
abbrev S32x516x1 : Shape := ⟨3, ![32, 516, 1]⟩
abbrev S32x516x2 : Shape := ⟨3, ![32, 516, 2]⟩
abbrev S32x516x514 : Shape := ⟨3, ![32, 516, 514]⟩
abbrev S32x516x516 : Shape := ⟨3, ![32, 516, 516]⟩
abbrev S1x1 : Shape := ⟨2, ![1, 1]⟩
abbrev S32x1x512x512 : Shape := ⟨4, ![32, 1, 512, 512]⟩
abbrev S4x3x512x512 : Shape := ⟨4, ![4, 3, 512, 512]⟩
abbrev S4x1x3x512x512 : Shape := ⟨5, ![4, 1, 3, 512, 512]⟩
abbrev S3145728 : Shape := ⟨1, ![3145728]⟩
abbrev S8x4x3x512x512 : Shape := ⟨5, ![8, 4, 3, 512, 512]⟩
abbrev S8x3145728 : Shape := ⟨2, ![8, 3145728]⟩
abbrev S3145728x1 : Shape := ⟨2, ![3145728, 1]⟩
abbrev S3145728x2 : Shape := ⟨2, ![3145728, 2]⟩

abbrev nBuf : Space → Nat
  | .hbm => 396
  | .vmem => 0
  | .smem => 0
  | _ => 0

abbrev hbmTy0_0 (i : Nat) : BufTy := match i % 128 with
  | 0 => ⟨S4x8x3x512x512, .f32⟩
  | 1 => ⟨S5, .f32⟩
  | 2 => ⟨S5, .f32⟩
  | 3 => ⟨S5, .f32⟩
  | 4 => ⟨S32x3x512x512, .f32⟩
  | 5 => ⟨S_, .f32⟩
  | 6 => ⟨S32x512x512, .f32⟩
  | 7 => ⟨S_, .f32⟩
  | 8 => ⟨S32x512x512, .f32⟩
  | 9 => ⟨S32x512x512, .f32⟩
  | 10 => ⟨S5x1, .f32⟩
  | 11 => ⟨S1x5, .f32⟩
  | 12 => ⟨S5x5, .f32⟩
  | 13 => ⟨S5x5, .f32⟩
  | 14 => ⟨S5x5, .f32⟩
  | 15 => ⟨S5x1, .f32⟩
  | 16 => ⟨S1x5, .f32⟩
  | 17 => ⟨S5x5, .f32⟩
  | 18 => ⟨S5x5, .f32⟩
  | 19 => ⟨S5x5, .f32⟩
  | 20 => ⟨S5x1, .f32⟩
  | 21 => ⟨S1x5, .f32⟩
  | 22 => ⟨S5x5, .f32⟩
  | 23 => ⟨S5x5, .f32⟩
  | 24 => ⟨S5x5, .f32⟩
  | 25 => ⟨S5x5, .f32⟩
  | 26 => ⟨S_, .i32⟩
  | 27 => ⟨S32x1x512, .f32⟩
  | 28 => ⟨S32x2x512, .f32⟩
  | 29 => ⟨S32x2x512, .f32⟩
  | 30 => ⟨S32x514x512, .f32⟩
  | 31 => ⟨S32x1x512, .f32⟩
  | 32 => ⟨S32x2x512, .f32⟩
  | 33 => ⟨S32x2x512, .f32⟩
  | 34 => ⟨S32x516x512, .f32⟩
  | 35 => ⟨S32x516x1, .f32⟩
  | 36 => ⟨S32x516x2, .f32⟩
  | 37 => ⟨S32x516x2, .f32⟩
  | 38 => ⟨S32x516x514, .f32⟩
  | 39 => ⟨S32x516x1, .f32⟩
  | 40 => ⟨S32x516x2, .f32⟩
  | 41 => ⟨S32x516x2, .f32⟩
  | 42 => ⟨S32x516x516, .f32⟩
  | 43 => ⟨S32x512x512, .f32⟩
  | 44 => ⟨S1x1, .f32⟩
  | 45 => ⟨S_, .f32⟩
  | 46 => ⟨S32x512x512, .f32⟩
  | 47 => ⟨S32x512x512, .f32⟩
  | 48 => ⟨S32x512x512, .f32⟩
  | 49 => ⟨S1x1, .f32⟩
  | 50 => ⟨S_, .f32⟩
  | 51 => ⟨S32x512x512, .f32⟩
  | 52 => ⟨S32x512x512, .f32⟩
  | 53 => ⟨S32x512x512, .f32⟩
  | 54 => ⟨S32x512x512, .f32⟩
  | 55 => ⟨S1x1, .f32⟩
  | 56 => ⟨S_, .f32⟩
  | 57 => ⟨S32x512x512, .f32⟩
  | 58 => ⟨S32x512x512, .f32⟩
  | 59 => ⟨S32x512x512, .f32⟩
  | 60 => ⟨S32x512x512, .f32⟩
  | 61 => ⟨S1x1, .f32⟩
  | 62 => ⟨S_, .f32⟩
  | 63 => ⟨S32x512x512, .f32⟩
  | 64 => ⟨S32x512x512, .f32⟩
  | 65 => ⟨S32x512x512, .f32⟩
  | 66 => ⟨S32x512x512, .f32⟩
  | 67 => ⟨S1x1, .f32⟩
  | 68 => ⟨S_, .f32⟩
  | 69 => ⟨S32x512x512, .f32⟩
  | 70 => ⟨S32x512x512, .f32⟩
  | 71 => ⟨S32x512x512, .f32⟩
  | 72 => ⟨S32x512x512, .f32⟩
  | 73 => ⟨S1x1, .f32⟩
  | 74 => ⟨S_, .f32⟩
  | 75 => ⟨S32x512x512, .f32⟩
  | 76 => ⟨S32x512x512, .f32⟩
  | 77 => ⟨S32x512x512, .f32⟩
  | 78 => ⟨S32x512x512, .f32⟩
  | 79 => ⟨S1x1, .f32⟩
  | 80 => ⟨S_, .f32⟩
  | 81 => ⟨S32x512x512, .f32⟩
  | 82 => ⟨S32x512x512, .f32⟩
  | 83 => ⟨S32x512x512, .f32⟩
  | 84 => ⟨S32x512x512, .f32⟩
  | 85 => ⟨S1x1, .f32⟩
  | 86 => ⟨S_, .f32⟩
  | 87 => ⟨S32x512x512, .f32⟩
  | 88 => ⟨S32x512x512, .f32⟩
  | 89 => ⟨S32x512x512, .f32⟩
  | 90 => ⟨S32x512x512, .f32⟩
  | 91 => ⟨S1x1, .f32⟩
  | 92 => ⟨S_, .f32⟩
  | 93 => ⟨S32x512x512, .f32⟩
  | 94 => ⟨S32x512x512, .f32⟩
  | 95 => ⟨S32x512x512, .f32⟩
  | 96 => ⟨S32x512x512, .f32⟩
  | 97 => ⟨S1x1, .f32⟩
  | 98 => ⟨S_, .f32⟩
  | 99 => ⟨S32x512x512, .f32⟩
  | 100 => ⟨S32x512x512, .f32⟩
  | 101 => ⟨S32x512x512, .f32⟩
  | 102 => ⟨S32x512x512, .f32⟩
  | 103 => ⟨S1x1, .f32⟩
  | 104 => ⟨S_, .f32⟩
  | 105 => ⟨S32x512x512, .f32⟩
  | 106 => ⟨S32x512x512, .f32⟩
  | 107 => ⟨S32x512x512, .f32⟩
  | 108 => ⟨S32x512x512, .f32⟩
  | 109 => ⟨S1x1, .f32⟩
  | 110 => ⟨S_, .f32⟩
  | 111 => ⟨S32x512x512, .f32⟩
  | 112 => ⟨S32x512x512, .f32⟩
  | 113 => ⟨S32x512x512, .f32⟩
  | 114 => ⟨S32x512x512, .f32⟩
  | 115 => ⟨S1x1, .f32⟩
  | 116 => ⟨S_, .f32⟩
  | 117 => ⟨S32x512x512, .f32⟩
  | 118 => ⟨S32x512x512, .f32⟩
  | 119 => ⟨S32x512x512, .f32⟩
  | 120 => ⟨S32x512x512, .f32⟩
  | 121 => ⟨S1x1, .f32⟩
  | 122 => ⟨S_, .f32⟩
  | 123 => ⟨S32x512x512, .f32⟩
  | 124 => ⟨S32x512x512, .f32⟩
  | 125 => ⟨S32x512x512, .f32⟩
  | 126 => ⟨S32x512x512, .f32⟩
  | 127 => ⟨S1x1, .f32⟩
  | _ => ⟨S4x8x3x512x512, .f32⟩

abbrev hbmTy0_1 (i : Nat) : BufTy := match i % 128 with
  | 0 => ⟨S_, .f32⟩
  | 1 => ⟨S32x512x512, .f32⟩
  | 2 => ⟨S32x512x512, .f32⟩
  | 3 => ⟨S32x512x512, .f32⟩
  | 4 => ⟨S32x512x512, .f32⟩
  | 5 => ⟨S1x1, .f32⟩
  | 6 => ⟨S_, .f32⟩
  | 7 => ⟨S32x512x512, .f32⟩
  | 8 => ⟨S32x512x512, .f32⟩
  | 9 => ⟨S32x512x512, .f32⟩
  | 10 => ⟨S32x512x512, .f32⟩
  | 11 => ⟨S1x1, .f32⟩
  | 12 => ⟨S_, .f32⟩
  | 13 => ⟨S32x512x512, .f32⟩
  | 14 => ⟨S32x512x512, .f32⟩
  | 15 => ⟨S32x512x512, .f32⟩
  | 16 => ⟨S32x512x512, .f32⟩
  | 17 => ⟨S1x1, .f32⟩
  | 18 => ⟨S_, .f32⟩
  | 19 => ⟨S32x512x512, .f32⟩
  | 20 => ⟨S32x512x512, .f32⟩
  | 21 => ⟨S32x512x512, .f32⟩
  | 22 => ⟨S32x512x512, .f32⟩
  | 23 => ⟨S1x1, .f32⟩
  | 24 => ⟨S_, .f32⟩
  | 25 => ⟨S32x512x512, .f32⟩
  | 26 => ⟨S32x512x512, .f32⟩
  | 27 => ⟨S32x512x512, .f32⟩
  | 28 => ⟨S32x512x512, .f32⟩
  | 29 => ⟨S1x1, .f32⟩
  | 30 => ⟨S_, .f32⟩
  | 31 => ⟨S32x512x512, .f32⟩
  | 32 => ⟨S32x512x512, .f32⟩
  | 33 => ⟨S32x512x512, .f32⟩
  | 34 => ⟨S32x512x512, .f32⟩
  | 35 => ⟨S1x1, .f32⟩
  | 36 => ⟨S_, .f32⟩
  | 37 => ⟨S32x512x512, .f32⟩
  | 38 => ⟨S32x512x512, .f32⟩
  | 39 => ⟨S32x512x512, .f32⟩
  | 40 => ⟨S32x512x512, .f32⟩
  | 41 => ⟨S1x1, .f32⟩
  | 42 => ⟨S_, .f32⟩
  | 43 => ⟨S32x512x512, .f32⟩
  | 44 => ⟨S32x512x512, .f32⟩
  | 45 => ⟨S32x512x512, .f32⟩
  | 46 => ⟨S32x512x512, .f32⟩
  | 47 => ⟨S1x1, .f32⟩
  | 48 => ⟨S_, .f32⟩
  | 49 => ⟨S32x512x512, .f32⟩
  | 50 => ⟨S32x512x512, .f32⟩
  | 51 => ⟨S32x512x512, .f32⟩
  | 52 => ⟨S32x512x512, .f32⟩
  | 53 => ⟨S1x1, .f32⟩
  | 54 => ⟨S_, .f32⟩
  | 55 => ⟨S32x512x512, .f32⟩
  | 56 => ⟨S32x512x512, .f32⟩
  | 57 => ⟨S32x512x512, .f32⟩
  | 58 => ⟨S32x512x512, .f32⟩
  | 59 => ⟨S1x1, .f32⟩
  | 60 => ⟨S_, .f32⟩
  | 61 => ⟨S32x512x512, .f32⟩
  | 62 => ⟨S32x512x512, .f32⟩
  | 63 => ⟨S32x512x512, .f32⟩
  | 64 => ⟨S_, .i32⟩
  | 65 => ⟨S32x1x512, .f32⟩
  | 66 => ⟨S32x2x512, .f32⟩
  | 67 => ⟨S32x2x512, .f32⟩
  | 68 => ⟨S32x514x512, .f32⟩
  | 69 => ⟨S32x1x512, .f32⟩
  | 70 => ⟨S32x2x512, .f32⟩
  | 71 => ⟨S32x2x512, .f32⟩
  | 72 => ⟨S32x516x512, .f32⟩
  | 73 => ⟨S32x516x1, .f32⟩
  | 74 => ⟨S32x516x2, .f32⟩
  | 75 => ⟨S32x516x2, .f32⟩
  | 76 => ⟨S32x516x514, .f32⟩
  | 77 => ⟨S32x516x1, .f32⟩
  | 78 => ⟨S32x516x2, .f32⟩
  | 79 => ⟨S32x516x2, .f32⟩
  | 80 => ⟨S32x516x516, .f32⟩
  | 81 => ⟨S32x512x512, .f32⟩
  | 82 => ⟨S1x1, .f32⟩
  | 83 => ⟨S_, .f32⟩
  | 84 => ⟨S32x512x512, .f32⟩
  | 85 => ⟨S32x512x512, .f32⟩
  | 86 => ⟨S32x512x512, .f32⟩
  | 87 => ⟨S1x1, .f32⟩
  | 88 => ⟨S_, .f32⟩
  | 89 => ⟨S32x512x512, .f32⟩
  | 90 => ⟨S32x512x512, .f32⟩
  | 91 => ⟨S32x512x512, .f32⟩
  | 92 => ⟨S32x512x512, .f32⟩
  | 93 => ⟨S1x1, .f32⟩
  | 94 => ⟨S_, .f32⟩
  | 95 => ⟨S32x512x512, .f32⟩
  | 96 => ⟨S32x512x512, .f32⟩
  | 97 => ⟨S32x512x512, .f32⟩
  | 98 => ⟨S32x512x512, .f32⟩
  | 99 => ⟨S1x1, .f32⟩
  | 100 => ⟨S_, .f32⟩
  | 101 => ⟨S32x512x512, .f32⟩
  | 102 => ⟨S32x512x512, .f32⟩
  | 103 => ⟨S32x512x512, .f32⟩
  | 104 => ⟨S32x512x512, .f32⟩
  | 105 => ⟨S1x1, .f32⟩
  | 106 => ⟨S_, .f32⟩
  | 107 => ⟨S32x512x512, .f32⟩
  | 108 => ⟨S32x512x512, .f32⟩
  | 109 => ⟨S32x512x512, .f32⟩
  | 110 => ⟨S32x512x512, .f32⟩
  | 111 => ⟨S1x1, .f32⟩
  | 112 => ⟨S_, .f32⟩
  | 113 => ⟨S32x512x512, .f32⟩
  | 114 => ⟨S32x512x512, .f32⟩
  | 115 => ⟨S32x512x512, .f32⟩
  | 116 => ⟨S32x512x512, .f32⟩
  | 117 => ⟨S1x1, .f32⟩
  | 118 => ⟨S_, .f32⟩
  | 119 => ⟨S32x512x512, .f32⟩
  | 120 => ⟨S32x512x512, .f32⟩
  | 121 => ⟨S32x512x512, .f32⟩
  | 122 => ⟨S32x512x512, .f32⟩
  | 123 => ⟨S1x1, .f32⟩
  | 124 => ⟨S_, .f32⟩
  | 125 => ⟨S32x512x512, .f32⟩
  | 126 => ⟨S32x512x512, .f32⟩
  | 127 => ⟨S32x512x512, .f32⟩
  | _ => ⟨S4x8x3x512x512, .f32⟩

abbrev hbmTy0_2 (i : Nat) : BufTy := match i % 128 with
  | 0 => ⟨S32x512x512, .f32⟩
  | 1 => ⟨S1x1, .f32⟩
  | 2 => ⟨S_, .f32⟩
  | 3 => ⟨S32x512x512, .f32⟩
  | 4 => ⟨S32x512x512, .f32⟩
  | 5 => ⟨S32x512x512, .f32⟩
  | 6 => ⟨S32x512x512, .f32⟩
  | 7 => ⟨S1x1, .f32⟩
  | 8 => ⟨S_, .f32⟩
  | 9 => ⟨S32x512x512, .f32⟩
  | 10 => ⟨S32x512x512, .f32⟩
  | 11 => ⟨S32x512x512, .f32⟩
  | 12 => ⟨S32x512x512, .f32⟩
  | 13 => ⟨S1x1, .f32⟩
  | 14 => ⟨S_, .f32⟩
  | 15 => ⟨S32x512x512, .f32⟩
  | 16 => ⟨S32x512x512, .f32⟩
  | 17 => ⟨S32x512x512, .f32⟩
  | 18 => ⟨S32x512x512, .f32⟩
  | 19 => ⟨S1x1, .f32⟩
  | 20 => ⟨S_, .f32⟩
  | 21 => ⟨S32x512x512, .f32⟩
  | 22 => ⟨S32x512x512, .f32⟩
  | 23 => ⟨S32x512x512, .f32⟩
  | 24 => ⟨S32x512x512, .f32⟩
  | 25 => ⟨S1x1, .f32⟩
  | 26 => ⟨S_, .f32⟩
  | 27 => ⟨S32x512x512, .f32⟩
  | 28 => ⟨S32x512x512, .f32⟩
  | 29 => ⟨S32x512x512, .f32⟩
  | 30 => ⟨S32x512x512, .f32⟩
  | 31 => ⟨S1x1, .f32⟩
  | 32 => ⟨S_, .f32⟩
  | 33 => ⟨S32x512x512, .f32⟩
  | 34 => ⟨S32x512x512, .f32⟩
  | 35 => ⟨S32x512x512, .f32⟩
  | 36 => ⟨S32x512x512, .f32⟩
  | 37 => ⟨S1x1, .f32⟩
  | 38 => ⟨S_, .f32⟩
  | 39 => ⟨S32x512x512, .f32⟩
  | 40 => ⟨S32x512x512, .f32⟩
  | 41 => ⟨S32x512x512, .f32⟩
  | 42 => ⟨S32x512x512, .f32⟩
  | 43 => ⟨S1x1, .f32⟩
  | 44 => ⟨S_, .f32⟩
  | 45 => ⟨S32x512x512, .f32⟩
  | 46 => ⟨S32x512x512, .f32⟩
  | 47 => ⟨S32x512x512, .f32⟩
  | 48 => ⟨S32x512x512, .f32⟩
  | 49 => ⟨S1x1, .f32⟩
  | 50 => ⟨S_, .f32⟩
  | 51 => ⟨S32x512x512, .f32⟩
  | 52 => ⟨S32x512x512, .f32⟩
  | 53 => ⟨S32x512x512, .f32⟩
  | 54 => ⟨S32x512x512, .f32⟩
  | 55 => ⟨S1x1, .f32⟩
  | 56 => ⟨S_, .f32⟩
  | 57 => ⟨S32x512x512, .f32⟩
  | 58 => ⟨S32x512x512, .f32⟩
  | 59 => ⟨S32x512x512, .f32⟩
  | 60 => ⟨S32x512x512, .f32⟩
  | 61 => ⟨S1x1, .f32⟩
  | 62 => ⟨S_, .f32⟩
  | 63 => ⟨S32x512x512, .f32⟩
  | 64 => ⟨S32x512x512, .f32⟩
  | 65 => ⟨S32x512x512, .f32⟩
  | 66 => ⟨S32x512x512, .f32⟩
  | 67 => ⟨S1x1, .f32⟩
  | 68 => ⟨S_, .f32⟩
  | 69 => ⟨S32x512x512, .f32⟩
  | 70 => ⟨S32x512x512, .f32⟩
  | 71 => ⟨S32x512x512, .f32⟩
  | 72 => ⟨S32x512x512, .f32⟩
  | 73 => ⟨S1x1, .f32⟩
  | 74 => ⟨S_, .f32⟩
  | 75 => ⟨S32x512x512, .f32⟩
  | 76 => ⟨S32x512x512, .f32⟩
  | 77 => ⟨S32x512x512, .f32⟩
  | 78 => ⟨S32x512x512, .f32⟩
  | 79 => ⟨S1x1, .f32⟩
  | 80 => ⟨S_, .f32⟩
  | 81 => ⟨S32x512x512, .f32⟩
  | 82 => ⟨S32x512x512, .f32⟩
  | 83 => ⟨S32x512x512, .f32⟩
  | 84 => ⟨S32x512x512, .f32⟩
  | 85 => ⟨S1x1, .f32⟩
  | 86 => ⟨S_, .f32⟩
  | 87 => ⟨S32x512x512, .f32⟩
  | 88 => ⟨S32x512x512, .f32⟩
  | 89 => ⟨S32x512x512, .f32⟩
  | 90 => ⟨S32x512x512, .f32⟩
  | 91 => ⟨S1x1, .f32⟩
  | 92 => ⟨S_, .f32⟩
  | 93 => ⟨S32x512x512, .f32⟩
  | 94 => ⟨S32x512x512, .f32⟩
  | 95 => ⟨S32x512x512, .f32⟩
  | 96 => ⟨S32x512x512, .f32⟩
  | 97 => ⟨S1x1, .f32⟩
  | 98 => ⟨S_, .f32⟩
  | 99 => ⟨S32x512x512, .f32⟩
  | 100 => ⟨S32x512x512, .f32⟩
  | 101 => ⟨S32x512x512, .f32⟩
  | 102 => ⟨S32x1x512x512, .f32⟩
  | 103 => ⟨S32x3x512x512, .f32⟩
  | 104 => ⟨S4x8x3x512x512, .f32⟩
  | 105 => ⟨S_, .f32⟩
  | 106 => ⟨S4x3x512x512, .f32⟩
  | 107 => ⟨S4x1x3x512x512, .f32⟩
  | 108 => ⟨S4x8x3x512x512, .i32⟩
  | 109 => ⟨S4x8x3x512x512, .f32⟩
  | 110 => ⟨S4x8x3x512x512, .i1⟩
  | 111 => ⟨S_, .i32⟩
  | 112 => ⟨S_, .i32⟩
  | 113 => ⟨S4x8x3x512x512, .i32⟩
  | 114 => ⟨S4x8x3x512x512, .i32⟩
  | 115 => ⟨S_, .i32⟩
  | 116 => ⟨S4x3x512x512, .i32⟩
  | 117 => ⟨S3145728, .i32⟩
  | 118 => ⟨S8x4x3x512x512, .f32⟩
  | 119 => ⟨S8x3145728, .f32⟩
  | 120 => ⟨S3145728, .i32⟩
  | 121 => ⟨S_, .i32⟩
  | 122 => ⟨S3145728, .i32⟩
  | 123 => ⟨S3145728, .i1⟩
  | 124 => ⟨S_, .i32⟩
  | 125 => ⟨S3145728, .i32⟩
  | 126 => ⟨S3145728, .i32⟩
  | 127 => ⟨S3145728, .i32⟩
  | _ => ⟨S4x8x3x512x512, .f32⟩

abbrev hbmTy0_3 (i : Nat) : BufTy := match i % 128 with
  | 0 => ⟨S_, .i32⟩
  | 1 => ⟨S3145728, .i32⟩
  | 2 => ⟨S3145728, .i1⟩
  | 3 => ⟨S_, .i32⟩
  | 4 => ⟨S3145728, .i32⟩
  | 5 => ⟨S3145728, .i32⟩
  | 6 => ⟨S3145728, .i32⟩
  | 7 => ⟨S3145728x1, .i32⟩
  | 8 => ⟨S3145728x1, .i32⟩
  | 9 => ⟨S3145728x2, .i32⟩
  | 10 => ⟨S3145728, .f32⟩
  | 11 => ⟨S4x3x512x512, .f32⟩
  | _ => ⟨S4x8x3x512x512, .f32⟩

abbrev hbmTy (i : Nat) : BufTy := match i / 128 with
  | 0 => hbmTy0_0 i
  | 1 => hbmTy0_1 i
  | 2 => hbmTy0_2 i
  | 3 => hbmTy0_3 i
  | _ => ⟨S4x8x3x512x512, .f32⟩

abbrev bufTy : (tb : Table) → Fin (tcTables nBuf tb) → BufTy
  | .hbm, ⟨i, _⟩ => hbmTy i
  | _, _ => ⟨S4x8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_cst_2 : Ref sig .tc := ⟨.hbm, 5, rfl⟩
abbrev main_v1 : Ref sig .tc := ⟨.hbm, 6, rfl⟩
abbrev main_cst_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_c_4 : Ref sig .tc := ⟨.hbm, 192, rfl⟩
abbrev main_call1_v0 : Ref sig .tc := ⟨.hbm, 193, rfl⟩
abbrev main_call1_v1 : Ref sig .tc := ⟨.hbm, 194, rfl⟩
abbrev main_call1_v2 : Ref sig .tc := ⟨.hbm, 195, rfl⟩
abbrev main_call1_v3 : Ref sig .tc := ⟨.hbm, 196, rfl⟩
abbrev main_call1_v4 : Ref sig .tc := ⟨.hbm, 197, rfl⟩
abbrev main_call1_v5 : Ref sig .tc := ⟨.hbm, 198, rfl⟩
abbrev main_call1_v6 : Ref sig .tc := ⟨.hbm, 199, rfl⟩
abbrev main_call1_v7 : Ref sig .tc := ⟨.hbm, 200, rfl⟩
abbrev main_call1_v8 : Ref sig .tc := ⟨.hbm, 201, rfl⟩
abbrev main_call1_v9 : Ref sig .tc := ⟨.hbm, 202, rfl⟩
abbrev main_call1_v10 : Ref sig .tc := ⟨.hbm, 203, rfl⟩
abbrev main_call1_v11 : Ref sig .tc := ⟨.hbm, 204, rfl⟩
abbrev main_call1_v12 : Ref sig .tc := ⟨.hbm, 205, rfl⟩
abbrev main_call1_v13 : Ref sig .tc := ⟨.hbm, 206, rfl⟩
abbrev main_call1_v14 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_cst_5 : Ref sig .tc := ⟨.hbm, 361, rfl⟩
abbrev main_v323 : Ref sig .tc := ⟨.hbm, 362, rfl⟩
abbrev main_v324 : Ref sig .tc := ⟨.hbm, 363, rfl⟩
abbrev main_v325 : Ref sig .tc := ⟨.hbm, 364, rfl⟩
abbrev main_v326 : Ref sig .tc := ⟨.hbm, 365, rfl⟩
abbrev main_v327 : Ref sig .tc := ⟨.hbm, 366, rfl⟩
abbrev main_c_6 : Ref sig .tc := ⟨.hbm, 367, rfl⟩
abbrev main_call2_v0 : Ref sig .tc := ⟨.hbm, 368, rfl⟩
abbrev main_call2_v1 : Ref sig .tc := ⟨.hbm, 369, rfl⟩
abbrev main_v328 : Ref sig .tc := ⟨.hbm, 370, rfl⟩
abbrev main_c_7 : Ref sig .tc := ⟨.hbm, 371, rfl⟩
abbrev main_v329 : Ref sig .tc := ⟨.hbm, 372, rfl⟩
abbrev main_v330 : Ref sig .tc := ⟨.hbm, 373, rfl⟩
abbrev main_v331 : Ref sig .tc := ⟨.hbm, 374, rfl⟩
abbrev main_v332 : Ref sig .tc := ⟨.hbm, 375, rfl⟩
abbrev main_v333 : Ref sig .tc := ⟨.hbm, 376, rfl⟩
abbrev main_c_8 : Ref sig .tc := ⟨.hbm, 377, rfl⟩
abbrev main_v334 : Ref sig .tc := ⟨.hbm, 378, rfl⟩
abbrev main_v335 : Ref sig .tc := ⟨.hbm, 379, rfl⟩
abbrev main_c_9 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_c_10 : Ref sig .tc := ⟨.hbm, 384, rfl⟩
abbrev main_v339 : Ref sig .tc := ⟨.hbm, 385, rfl⟩
abbrev main_v340 : Ref sig .tc := ⟨.hbm, 386, rfl⟩
abbrev main_c_11 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩

abbrev nD : Nat := 1
abbrev τ : Topo := Topo.v7x

variable {F : FTy → Type} [FloatOps F]
-- ==== Proof.Stages.lean ====
module
public import proofs.«01_k».proof.Proof.Gen.KernelIdeal.Value

/-! The stages of the kernel's body, named: one frame's grey image, its blur, its Laplacian; the knock-out of the four
frames of one step; and what a step leaves in the two buffers it carries. -/

@[expose] public section

noncomputable section

namespace Cert.KernelIdeal.Stage

open Idealize.ShloMosaic Idealize.ShloMosaic.TcCoe
open Cert.KernelIdeal Cert.KernelIdeal.Gen

variable {F : FTy → Type} [FloatOps F] [Named F]

/-- The rectangle of one channel of one frame lies in a block. -/
theorem chan_inb (f : Fin 4) (h : Fin 3) (a : Fin 5) :
    (![0, f.val, h.val, 0, 0] : Fin 5 → ℕ) a + S1x1x1x512x512.size a ≤ S1x4x3x512x512.size a := by
  match a with
  | ⟨0, _⟩ => show 0 + 1 ≤ 1; omega
  | ⟨1, _⟩ => show f.val + 1 ≤ 4; omega
  | ⟨2, _⟩ => show h.val + 1 ≤ 3; omega
  | ⟨3, _⟩ => show 0 + 512 ≤ 512; omega
  | ⟨4, _⟩ => show 0 + 512 ≤ 512; omega

/-- Channel `h` of frame `f` of a step's block. -/
def chan (x : Vec F S1x4x3x512x512 .f32) (f : Fin 4) (h : Fin 3) : FVec F S512x512 .f32 :=
  shapeCast S512x512 (View.ld (Val := Elt F) (S := S1x4x3x512x512) (e' := .f32) x
    (Rect.unit (s := S1x4x3x512x512) ![0, f.val, h.val, 0, 0] S1x1x1x512x512.size (chan_inb f h)))
    shapeCasts_S1x1x1x512x512_S512x512

/-- The grey image: the three channels' sum times a third. -/
def grey (a b c : FVec F S512x512 .f32) : FVec F S512x512 .f32 :=
  mulf (addf (addf a b) c) (broadcast S512x512 (Named.named κ "third" 0x3EAAAAAB#32))

/-- The rows padded by two on either side, reflected. -/
def padRows (v : FVec F S512x512 .bf16) : FVec F S516x512 .bf16 :=
  concatenate S516x512 0
    [⟨S1x512, extractStridedSlice S1x512 ![2, 0] v slices_S512x512_o2_0_S1x512⟩,
     ⟨S1x512, extractStridedSlice S1x512 ![1, 0] v slices_S512x512_o1_0_S1x512⟩,
     ⟨S512x512, v⟩,
     ⟨S1x512, extractStridedSlice S1x512 ![510, 0] v slices_S512x512_o510_0_S1x512⟩,
     ⟨S1x512, extractStridedSlice S1x512 ![509, 0] v slices_S512x512_o509_0_S1x512⟩]
    concatenates_S1x512_S1x512_S512x512_S1x512_S1x512_S516x512_d0

/-- Five taps over the rows with symmetric weights. -/
def rowSym (p : FVec F S516x512 .f32) (a b c : F .f32) : FVec F S512x512 .f32 :=
  addf (addf
    (mulf (broadcast S512x512 a) (addf (extractStridedSlice S512x512 ![0, 0] p slices_S516x512_o0_0_S512x512)
      (extractStridedSlice S512x512 ![4, 0] p slices_S516x512_o4_0_S512x512)))
    (mulf (broadcast S512x512 b) (addf (extractStridedSlice S512x512 ![1, 0] p slices_S516x512_o1_0_S512x512)
      (extractStridedSlice S512x512 ![3, 0] p slices_S516x512_o3_0_S512x512))))
    (mulf (broadcast S512x512 c) (extractStridedSlice S512x512 ![2, 0] p slices_S516x512_o2_0_S512x512))

/-- The second difference over the rows. -/
def rowDiff (p : FVec F S516x512 .f32) (c : F .f32) : FVec F S512x512 .f32 :=
  subf (addf (extractStridedSlice S512x512 ![0, 0] p slices_S516x512_o0_0_S512x512)
      (extractStridedSlice S512x512 ![4, 0] p slices_S516x512_o4_0_S512x512))
    (mulf (broadcast S512x512 c) (extractStridedSlice S512x512 ![2, 0] p slices_S516x512_o2_0_S512x512))

/-- A padded image times the Gaussian table. -/
def timesGauss (g : Vec F S512x512 .bf16) (v : FVec F S512x512 .f32) : FVec F S516x512 .f32 :=
  matmul dot_S516x512_S512x512_S516x512_1_0_0_1_n_n none (padRows (truncf .bf16 v bitsLt_bf16_f32)) g
    (constant S516x512 .f32 0x00000000#32)

/-- A padded image times the Laplacian's table. -/
def timesLap (l : Vec F S512x1024 .bf16) (v : FVec F S512x512 .f32) : FVec F S516x1024 .f32 :=
  matmul dot_S516x512_S512x1024_S516x1024_1_0_0_1_n_n none (padRows (truncf .bf16 v bitsLt_bf16_f32)) l
    (constant S516x1024 .f32 0x00000000#32)

/-- The blurred image. -/
def blur (g : Vec F S512x512 .bf16) (v : FVec F S512x512 .f32) : FVec F S512x512 .f32 :=
  rowSym (timesGauss g v) (Scalar.ofBits .f32 0x3D800000#32) (Scalar.ofBits .f32 0x3E800000#32)
    (Scalar.ofBits .f32 0x3EC00000#32)

/-- The Laplacian of an image. -/
def laplace (l : Vec F S512x1024 .bf16) (v : FVec F S512x512 .f32) : FVec F S512x512 .f32 :=
  addf
    (rowSym (extractStridedSlice S516x512 ![0, 0] (timesLap l v) slices_S516x1024_o0_0_S516x512)
      (Scalar.ofBits .f32 0x3F800000#32) (Scalar.ofBits .f32 0x40800000#32) (Scalar.ofBits .f32 0x40C00000#32))
    (rowDiff (extractStridedSlice S516x512 ![0, 512] (timesLap l v) slices_S516x1024_o0_512_S516x512)
      (Scalar.ofBits .f32 0x40000000#32))

/-- The focus measure of frame `f` of a step's block. -/
def focus (x : Vec F S1x4x3x512x512 .f32) (g : Vec F S512x512 .bf16) (l : Vec F S512x1024 .bf16) (f : Fin 4) :
    FVec F S512x512 .f32 :=
  laplace l (blur g (grey (chan x f 0) (chan x f 1) (chan x f 2)))

/-- The larger of two, the left one at a tie. -/
def later (a b : FVec F S512x512 .f32) : FVec F S512x512 .f32 := select (cmpf .ogt b a) b a

/-- The largest focus measure of a step's four frames. -/
def top (x : Vec F S1x4x3x512x512 .f32) (g : Vec F S512x512 .bf16) (l : Vec F S512x1024 .bf16) : FVec F S512x512 .f32 :=
  later (later (focus x g l 0) (focus x g l 1)) (later (focus x g l 2) (focus x g l 3))

/-- Channel `h` where the four frames' knock-out picks it. -/
def pick (x : Vec F S1x4x3x512x512 .f32) (g : Vec F S512x512 .bf16) (l : Vec F S512x1024 .bf16) (h : Fin 3) :
    FVec F S512x512 .f32 :=
  select (cmpf .ogt (later (focus x g l 2) (focus x g l 3)) (later (focus x g l 0) (focus x g l 1)))
    (select (cmpf .ogt (focus x g l 3) (focus x g l 2)) (chan x 3 h) (chan x 2 h))
    (select (cmpf .ogt (focus x g l 1) (focus x g l 0)) (chan x 1 h) (chan x 0 h))

theorem zero2 : (![0, 0] : Fin 2 → ℕ) = fun _ => 0 := funext fun a => by fin_cases a <;> rfl

variable (c : Dev nD) (i : grid0.Coords) (arg2 : Memref sig .tc .vmem S1x4x3x512x512 .f32) (harg2 : arg2.IsWhole)
  (arg3 : Memref sig .tc .vmem S512x512 .bf16) (harg3 : arg3.IsWhole)
  (arg4 : Memref sig .tc .vmem S512x1024 .bf16) (harg4 : arg4.IsWhole)
  (arg5 : Memref sig .tc .vmem S1x3x512x512 .f32) (harg5 : arg5.IsWhole)
  (arg6 : Memref sig .tc .vmem S512x512 .f32) (harg6 : arg6.IsWhole)
  (x0 : Vec F S1x4x3x512x512 .f32) (x1 : Vec F S512x512 .bf16) (x2 : Vec F S512x1024 .bf16)
  (xo3 : Vec F S1x3x512x512 .f32) (xs0 : Vec F S512x512 .f32)

omit [FloatOps F] [Named F] in
/-- A channel as the body loads it. -/
theorem chan_eq (x : Vec F S1x4x3x512x512 .f32) (f : Fin 4) (h : Fin 3) {off : Fin 5 → ℕ}
    (e : off = ![0, f.val, h.val, 0, 0]) (inb) :
    shapeCast S512x512 (View.ld (Val := Elt F) (S := S1x4x3x512x512) (e' := .f32) x
      (Rect.unit (s := S1x4x3x512x512) off S1x1x1x512x512.size inb)) shapeCasts_S1x1x1x512x512_S512x512 = chan x f h := by
  subst e
  rfl

section Frames

variable (a b d : Vec F S1x1x1x512x512 .f32) (g : Vec F S512x512 .bf16) (l : Vec F S512x1024 .bf16)

/-- One frame's focus measure from its three channels as loaded. -/
def measure : FVec F S512x512 .f32 :=
  laplace l (blur g (grey (shapeCast S512x512 a shapeCasts_S1x1x1x512x512_S512x512)
    (shapeCast S512x512 b shapeCasts_S1x1x1x512x512_S512x512) (shapeCast S512x512 d shapeCasts_S1x1x1x512x512_S512x512)))

/-- Frame 0's blurred image, padded, as the body names it. -/
abbrev blurred0 : FVec F S516x512 .bf16 := k0_pay31 (k0_pay22 a b d) g

/-- Frame 1's padded image. -/
abbrev padded1 : FVec F S516x512 .bf16 := k0_pay24 (k0_pay23 a b d)

/-- Frame 2's product with the Laplacian's table. -/
abbrev product2 : FVec F S516x1024 .f32 := k0_pay40 (k0_pay35 (k0_pay29 (k0_pay25 a b d) g)) l

/-- Frame 3's product with the Gaussian table. -/
abbrev product3 : FVec F S516x512 .f32 := k0_pay30 (k0_pay26 a b) (k0_pay27 d) g

/-- The tables as the body loads them. -/
theorem measure_cast : measure a b d (shapeCast S512x512 g shapeCasts_S512x512_S512x512)
    (shapeCast S512x1024 l shapeCasts_S512x1024_S512x1024) = measure a b d g l := by
  rw [shapeCast_self, shapeCast_self]

theorem frame0_eq :
    k0_pay47 (k0_pay42 (blurred0 a b d g) l) (k0_pay44 (blurred0 a b d g) l) (k0_pay45 (blurred0 a b d g) l) k0_pay46
      = measure a b d g l := Eq.trans rfl (measure_cast a b d g l)

theorem frame1_eq :
    k0_pay48 (k0_pay39 (k0_pay34 (k0_pay28 (padded1 a b d) g) (k0_pay32 (padded1 a b d) g) (k0_pay33 (padded1 a b d) g)) l)
      = measure a b d g l := Eq.trans rfl (measure_cast a b d g l)

theorem frame2_eq :
    k0_pay1 (k0_pay49 (product2 a b d g l)) (k0_pay50 (product2 a b d g l)) = measure a b d g l := Eq.trans rfl (measure_cast a b d g l)

theorem frame3_eq :
    k0_pay2 (k0_pay41 (k0_pay36 (product3 a b d g)) (k0_pay37 (product3 a b d g)) l) = measure a b d g l := Eq.trans rfl (measure_cast a b d g l)

end Frames

/-- A first step leaves its largest focus measure. -/
theorem best_first (hc0 : cond0_0 i) (hc1 : ¬cond0_1 i) :
    sout0_A_0 c i arg2 harg2 arg3 harg3 arg4 harg4 arg5 harg5 arg6 harg6 hc0 hc1 x0 x1 x2 = top x0 x1 x2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  rw [View.canon_unit_zero (S := S512x512) zero2]
  sl_unfold_words
  simp only [View.readAt_eq_ld, harg2.read_unread, harg3.read_unread, harg4.read_unread,
    View.ld_unit_zero (S := S512x512) zero2, View.ld_unit_zero (S := S512x1024) zero2]
  unfold k0_pay11 k0_pay8 k0_pay7 k0_pay6 k0_pay5 k0_pay4 k0_pay3
  dsimp only
  simp only [shapeCast_self, frame0_eq, frame1_eq, frame2_eq, frame3_eq]
  rfl

end Cert.KernelIdeal.Stage

end

end
-- ==== Proof.Steps.lean ====
module
public import proofs.«01_k».proof.Proof.Stages
public import Idealize.ShloMosaic.Lib.Pointwise
public import Idealize.ShloMosaic.Lib.Pipeline.ValueKit.Tiles

/-! What a step leaves in the output's block and in the running maximum, in the words of the stages: a first step writes
its own pick, a second one keeps the old value where its own largest measure is not above the running maximum. -/

@[expose] public section

noncomputable section

namespace Cert.KernelIdeal.Stage

open Idealize.ShloMosaic Idealize.ShloMosaic.TcCoe
open Cert.KernelIdeal Cert.KernelIdeal.Gen

variable {F : FTy → Type} [FloatOps F] [Named F]

variable (c : Dev nD) (i : grid0.Coords) (arg2 : Memref sig .tc .vmem S1x4x3x512x512 .f32) (harg2 : arg2.IsWhole)
  (arg3 : Memref sig .tc .vmem S512x512 .bf16) (harg3 : arg3.IsWhole)
  (arg4 : Memref sig .tc .vmem S512x1024 .bf16) (harg4 : arg4.IsWhole)
  (arg5 : Memref sig .tc .vmem S1x3x512x512 .f32) (harg5 : arg5.IsWhole)
  (arg6 : Memref sig .tc .vmem S512x512 .f32) (harg6 : arg6.IsWhole)
  (x0 : Vec F S1x4x3x512x512 .f32) (x1 : Vec F S512x512 .bf16) (x2 : Vec F S512x1024 .bf16)
  (xo3 : Vec F S1x3x512x512 .f32) (xs0 : Vec F S512x512 .f32)

/-- A second step leaves the larger of the running maximum and its own. -/
theorem best_next (hc0 : ¬cond0_0 i) (hc1 : cond0_1 i) :
    sout0_B_0 c i arg2 harg2 arg3 harg3 arg4 harg4 arg5 harg5 arg6 harg6 hc0 hc1 x0 x1 x2 xo3 xs0
      = later xs0 (top x0 x1 x2) := by
  unfold sout0_B_0
  rw [View.read_writes_eq_canon _ _ _ (scover0_B_0 c i arg2 harg2 arg3 harg3 arg4 harg4 arg5 harg5 arg6 harg6 hc0 hc1 x0 x1 x2 xo3 xs0)]
  unfold kernelRun0_B
  dsimp only
  rw [View.canon_unit_zero (S := S512x512) zero2]
  sl_unfold_words
  simp only [View.readAt_eq_ld, harg2.read_unread, harg3.read_unread, harg4.read_unread, harg6.read_unread,
    View.ld_unit_zero (S := S512x512) zero2, View.ld_unit_zero (S := S512x1024) zero2]
  unfold k0_pay17 k0_pay16 k0_pay8 k0_pay7 k0_pay6 k0_pay5 k0_pay4 k0_pay3
  dsimp only
  simp only [shapeCast_self, frame0_eq, frame1_eq, frame2_eq, frame3_eq]
  rfl

omit [FloatOps F] [Named F] in
/-- A channel's piece of the output's block holds that channel. -/
theorem tile_out (w : Fin 3 → FVec F S512x512 .f32) (h : Fin 3) (y : S1x3x512x512.Idx) :
    View.TileAt (Val := Elt F) (S := S1x3x512x512) (e := .f32) y ![0, h.val, 0, 0] ![1, 1, 512, 512]
      (shapeCast S1x1x512x512 (w h) shapeCasts_S512x512_S1x1x512x512) (w (y 1) (ix2 (y 2) (y 3))) := by
  intro x hx
  have h1 : y 1 = h := by
    apply Fin.ext
    have := hx 1
    have hb : (x 1).val < 1 := (x 1).isLt
    have e : (![0, h.val, 0, 0] : Fin 4 → ℕ) 1 = h.val := rfl
    rw [e] at this
    omega
  have h2 : (y 2).val = (x 2).val := by
    have := hx 2
    have e : (![0, h.val, 0, 0] : Fin 4 → ℕ) 2 = 0 := rfl
    rw [e] at this
    omega
  have h3 : (y 3).val = (x 3).val := by
    have := hx 3
    have e : (![0, h.val, 0, 0] : Fin 4 → ℕ) 3 = 0 := rfl
    rw [e] at this
    omega
  rw [h1]
  refine shapeCast_apply (s := S512x512) (t := S1x1x512x512) (w h) _ x (ix2 (y 2) (y 3)) ?_
  rw [Shape.rowMajor_val_two, Shape.rowMajor_val_four]
  have a0 : (x 0).val < 1 := (x 0).isLt
  have a1 : (x 1).val < 1 := (x 1).isLt
  show (y 2).val * 512 + (y 3).val = (((x 0).val * 1 + (x 1).val) * 512 + (x 2).val) * 512 + (x 3).val
  omega

theorem chan4_inb (h : Fin 3) (a : Fin 4) :
    (![0, h.val, 0, 0] : Fin 4 → ℕ) a + S1x1x512x512.size a ≤ S1x3x512x512.size a := by
  match a with
  | ⟨0, _⟩ => show 0 + 1 ≤ 1; omega
  | ⟨1, _⟩ => show h.val + 1 ≤ 3; omega
  | ⟨2, _⟩ => show 0 + 512 ≤ 512; omega
  | ⟨3, _⟩ => show 0 + 512 ≤ 512; omega

/-- Channel `h` of the output's block as it stands. -/
def old (xo : Vec F S1x3x512x512 .f32) (h : Fin 3) : FVec F S512x512 .f32 :=
  shapeCast S512x512 (View.ld (Val := Elt F) (S := S1x3x512x512) (e' := .f32) xo
    (Rect.unit (s := S1x3x512x512) ![0, h.val, 0, 0] S1x1x512x512.size (chan4_inb h)))
    shapeCasts_S1x1x512x512_S512x512

/-- Channel `h` after a second step. -/
def kept (x : Vec F S1x4x3x512x512 .f32) (g : Vec F S512x512 .bf16) (l : Vec F S512x1024 .bf16)
    (xo : Vec F S1x3x512x512 .f32) (xs : Vec F S512x512 .f32) (h : Fin 3) : FVec F S512x512 .f32 :=
  select (cmpf .ogt (top x g l) xs) (pick x g l h) (old xo h)

/-- A first step's block of the output. -/
theorem out_first (hc0 : cond0_0 i) (hc1 : ¬cond0_1 i) (y : S1x3x512x512.Idx) :
    out0_A_3 c i arg2 harg2 arg3 harg3 arg4 harg4 arg5 harg5 arg6 harg6 hc0 hc1 x0 x1 x2 y
      = pick x0 x1 x2 (y 1) (ix2 (y 2) (y 3)) := by
  unfold out0_A_3
  rw [View.read_writes_eq_canon _ _ _ (cover0_A_3 c i arg2 harg2 arg3 harg3 arg4 harg4 arg5 harg5 arg6 harg6 hc0 hc1 x0 x1 x2)]
  refine View.canon_eq_of_allAt _ _ _ (cover0_A_3 c i arg2 harg2 arg3 harg3 arg4 harg4 arg5 harg5 arg6 harg6 hc0 hc1 x0 x1 x2 y) ?_
  unfold kernelRun0_A
  dsimp only
  sl_unfold_words
  simp only [View.readAt_eq_ld, harg2.read_unread, harg3.read_unread, harg4.read_unread,
    View.ld_unit_zero (S := S512x512) zero2, View.ld_unit_zero (S := S512x1024) zero2]
  unfold k0_pay9 k0_pay12 k0_pay13 k0_pay14 k0_pay15 k0_pay7 k0_pay6 k0_pay5 k0_pay4 k0_pay3
  dsimp only
  simp only [frame0_eq, frame1_eq, frame2_eq, frame3_eq]
  exact View.allAt_cons_unit _ _ _ _ _ (tile_out (pick x0 x1 x2) 2 y)
    (View.allAt_cons_unit _ _ _ _ _ (tile_out (pick x0 x1 x2) 1 y)
      (View.allAt_cons_unit _ _ _ _ _ (tile_out (pick x0 x1 x2) 0 y) (View.allAt_nil _ _)))

/-- A second step's block of the output. -/
theorem out_next (hc0 : ¬cond0_0 i) (hc1 : cond0_1 i) (y : S1x3x512x512.Idx) :
    out0_B_3 c i arg2 harg2 arg3 harg3 arg4 harg4 arg5 harg5 arg6 harg6 hc0 hc1 x0 x1 x2 xo3 xs0 y
      = kept x0 x1 x2 xo3 xs0 (y 1) (ix2 (y 2) (y 3)) := by
  unfold out0_B_3
  rw [View.read_writes_eq_canon _ _ _ (cover0_B_3 c i arg2 harg2 arg3 harg3 arg4 harg4 arg5 harg5 arg6 harg6 hc0 hc1 x0 x1 x2 xo3 xs0)]
  refine View.canon_eq_of_allAt _ _ _ (cover0_B_3 c i arg2 harg2 arg3 harg3 arg4 harg4 arg5 harg5 arg6 harg6 hc0 hc1 x0 x1 x2 xo3 xs0 y) ?_
  unfold kernelRun0_B
  dsimp only
  sl_unfold_words
  simp only [View.readAt_eq_ld, harg2.read_unread, harg3.read_unread, harg4.read_unread, harg5.read_unread,
    harg6.read_unread, View.ld_unit_zero (S := S512x512) zero2, View.ld_unit_zero (S := S512x1024) zero2]
  unfold k0_pay10 k0_pay18 k0_pay19 k0_pay20 k0_pay21 k0_pay16 k0_pay8 k0_pay7 k0_pay6 k0_pay5 k0_pay4 k0_pay3
  dsimp only
  simp only [frame0_eq, frame1_eq, frame2_eq, frame3_eq]
  exact View.allAt_cons_unit _ _ _ _ _ (tile_out (kept x0 x1 x2 xo3 xs0) 2 y)
    (View.allAt_cons_unit _ _ _ _ _ (tile_out (kept x0 x1 x2 xo3 xs0) 1 y)
      (View.allAt_cons_unit _ _ _ _ _ (tile_out (kept x0 x1 x2 xo3 xs0) 0 y) (View.allAt_nil _ _)))

end Cert.KernelIdeal.Stage

end

end
-- ==== Proof.Table.Host.lean ====
module
public import proofs.«01_k».proof.Proof.Gen.KernelIdeal.Value
public import Idealize.ShloMosaic.Lib.StableHlo.RunRead

/-! The two band matrices as the host code builds them: for each of the five taps the pixel it shows, compared with the
row, gives its weight or zero, and the taps are added up. -/

@[expose] public section

-- the host code is a line of about 300 operations
set_option maxRecDepth 65536

noncomputable section

namespace Cert.KernelIdeal.Stage

open Idealize.ShloMosaic Idealize.ShloMosaic.TcCoe
open Cert.KernelIdeal Cert.KernelIdeal.Gen

variable {F : FTy → Type} [FloatOps F] [Named F]

/-- One integer everywhere. -/
def words (w : BitVec 32) : IVec S512x512 32 := broadcastInDim S512x512 ![] bcast_S_S512x512 (constantI S_ 32 w)

/-- One float everywhere. -/
def floats (w : BitVec 32) : FVec F S512x512 .f32 :=
  broadcastInDim S512x512 ![] bcast_S_S512x512 (constant S_ .f32 w)

/-- The column plus the tap's offset. -/
def offset (d : BitVec 32) : IVec S512x512 32 := addi (iotaInDim S512x512 32 1) (words d)

/-- The pixel which that position shows, the border reflected. -/
def shown (d : BitVec 32) : IVec S512x512 32 :=
  select (cmpi .slt (offset d) (words 0#32)) (negi (offset d))
    (select (cmpi .sge (offset d) (words 512#32)) (subi (words 1022#32) (offset d)) (offset d))

/-- The tap's weight in the row of the pixel it shows. -/
def weight (d w : BitVec 32) : FVec F S512x512 .f32 :=
  select (cmpi .eq (iotaInDim S512x512 32 0) (shown d)) (floats w) (floats 0x00000000#32)

/-- Five taps with the symmetric weights `u`, `v`, `w`. -/
def five (u v w : BitVec 32) : FVec F S512x512 .f32 :=
  addf (addf (addf (addf (addf (floats 0x00000000#32) (weight 4294967294#32 u)) (weight 4294967295#32 v)) (weight 0#32 w))
    (weight 1#32 v)) (weight 2#32 u)

/-- The second difference's three taps. -/
def three (u w : BitVec 32) : FVec F S512x512 .f32 :=
  addf (addf (addf (floats 0x00000000#32) (weight 4294967294#32 u)) (weight 0#32 w)) (weight 2#32 u)

/-- The Gaussian band matrix. -/
def gaussTable : Vec F S512x512 .bf16 := truncf .bf16 (five 0x3D800000#32 0x3E800000#32 0x3EC00000#32) bitsLt_bf16_f32

/-- The second difference's band matrix beside the smoothing one. -/
def lapTable : Vec F S512x1024 .bf16 :=
  truncf .bf16
    (concatenate S512x1024 1
      [⟨S512x512, three 0x3F800000#32 0xC0000000#32⟩, ⟨S512x512, five 0x3F800000#32 0x40800000#32 0x40C00000#32⟩]
      concatenates_S512x512_S512x512_S512x1024_d1)
    bitsLt_bf16_f32

variable (m : (ℓ : Loc nD τ sig) → Buf (Elt F) ℓ)

/-- What the host leaves in the first operand: `gaussTable`. -/
theorem V_gauss (c : Dev nD) : V m c main_v78 = gaussTable := by
  unfold V
  simp only [List.flatten_cons, List.flatten_nil, List.append_nil, StableHlo.after_append]
  after_reads_simp
  simp -implicitDefEqProofs only [StableHlo.TRef.toBuf, StableHlo.TRef.ofBuf, cast_cast, cast_eq, id_eq,
    gaussTable, five, weight, shown, offset, words, floats]

/-- Two tables standing side by side, each replaced by an equal one. -/
theorem side_eq {a a' b b' : Vec F S512x512 .f32} (ha : a = a') (hb : b = b') :
    truncf .bf16
        (concatenate S512x1024 1 [⟨S512x512, a⟩, ⟨S512x512, b⟩] concatenates_S512x512_S512x512_S512x1024_d1)
        bitsLt_bf16_f32 =
      truncf .bf16
        (concatenate S512x1024 1 [⟨S512x512, a'⟩, ⟨S512x512, b'⟩] concatenates_S512x512_S512x512_S512x1024_d1)
        bitsLt_bf16_f32 := by
  rw [ha, hb]

/-- What the host leaves in the second operand: `lapTable`. -/
theorem V_lap (c : Dev nD) : V m c main_v206 = lapTable := by
  unfold V lapTable
  simp only [List.flatten_cons, List.flatten_nil, List.append_nil, StableHlo.after_append]
  after_reads_simp
  refine side_eq ?_ ?_ <;>
    (after_reads_simp
     simp -implicitDefEqProofs only [StableHlo.TRef.toBuf, StableHlo.TRef.ofBuf, cast_cast, cast_eq, id_eq,
       three, five, weight, shown, offset, words, floats])

end Cert.KernelIdeal.Stage

end

end
-- ==== Proof.Region.lean ====
module
public import proofs.«01_k».proof.Proof.Steps
public import proofs.«01_k».proof.Proof.Table.Host

/-! The kernel's result in the words of the stages: each block the body is given is a part of an operand, and the array
written back is, batch by batch, what the second step leaves over the first. -/

@[expose] public section

noncomputable section

namespace Cert.KernelIdeal.Stage

open Idealize.ShloMosaic Idealize.ShloMosaic.TcCoe
open Cert.KernelIdeal Cert.KernelIdeal.Gen Cert.KernelIdeal.Value

variable {F : FTy → Type} [FloatOps F] [Named F]
variable (m : (ℓ : Loc nD τ sig) → Buf (Elt F) ℓ)

/-- Where the block of a point lies in the input. -/
theorem index0 : ∀ t : Fin cfg0.N, win0_0.index t = ![t.val / 2, t.val % 2, 0, 0, 0] :=
  (by decide +kernel : ∀ t : Fin grid0.N, _)

theorem index1 : ∀ t : Fin cfg0.N, win0_1.index t = ![0, 0] := (by decide +kernel : ∀ t : Fin grid0.N, _)

theorem index2 : ∀ t : Fin cfg0.N, win0_2.index t = ![0, 0] := (by decide +kernel : ∀ t : Fin grid0.N, _)

/-- The four frames of one step: the block of batch `b`, frames `4 s` to `4 s + 3`. -/
def step (x : Vec F S4x8x3x512x512 .f32) (b : Fin 4) (s : Fin 2) : Vec F S1x4x3x512x512 .f32 := fun y =>
  x (ix5 b ⟨4 * s.val + (y 1).val, by have : (y 1).val < 4 := (y 1).isLt; omega⟩ (y 2) (y 3) (y 4))

theorem iblk_input (c : Dev nD) (t : Fin cfg0.N) (b : Fin 4) (s : Fin 2) (hb : t.val / 2 = b.val) (hs : t.val % 2 = s.val) :
    (iblk m c 0 t : Vec F S1x4x3x512x512 .f32) = step (m ((c : Thread nD τ).loc main_arg0)) b s := by
  have hi := index0 t
  funext j
  unfold iblk step
  rw [View.read_apply]
  show V m c main_arg0 _ = m (c.tc.loc main_arg0) _
  rw [V_main_arg0]
  congr 1
  funext a
  apply Fin.ext
  have hj : (j 0).val < 1 := (j 0).isLt
  match a with
  | ⟨0, _⟩ => show win0_0.index t 0 * 1 + 1 * (j 0).val = b.val; rw [hi]; show t.val / 2 * 1 + _ = _; omega
  | ⟨1, _⟩ => show win0_0.index t 1 * 4 + 1 * (j 1).val = 4 * s.val + (j 1).val; rw [hi]; show t.val % 2 * 4 + _ = _; omega
  | ⟨2, _⟩ => show win0_0.index t 2 * 3 + 1 * (j 2).val = (j 2).val; rw [hi]; show 0 * 3 + _ = _; omega
  | ⟨3, _⟩ => show win0_0.index t 3 * 512 + 1 * (j 3).val = (j 3).val; rw [hi]; show 0 * 512 + _ = _; omega
  | ⟨4, _⟩ => show win0_0.index t 4 * 512 + 1 * (j 4).val = (j 4).val; rw [hi]; show 0 * 512 + _ = _; omega

theorem iblk_gauss (c : Dev nD) (t : Fin cfg0.N) : (iblk m c 1 t : Vec F S512x512 .bf16) = gaussTable := by
  have hi := index1 t
  funext j
  rw [← V_gauss m c]
  unfold iblk
  rw [View.read_apply]
  show V m c main_v78 _ = V m c main_v78 _
  congr 1
  funext a
  apply Fin.ext
  match a with
  | ⟨0, _⟩ => show win0_1.index t 0 * 512 + 1 * (j 0).val = (j 0).val; rw [hi]; show 0 * 512 + _ = _; omega
  | ⟨1, _⟩ => show win0_1.index t 1 * 512 + 1 * (j 1).val = (j 1).val; rw [hi]; show 0 * 512 + _ = _; omega

theorem iblk_lap (c : Dev nD) (t : Fin cfg0.N) : (iblk m c 2 t : Vec F S512x1024 .bf16) = lapTable := by
  have hi := index2 t
  funext j
  rw [← V_lap m c]
  unfold iblk
  rw [View.read_apply]
  show V m c main_v206 _ = V m c main_v206 _
  congr 1
  funext a
  apply Fin.ext
  match a with
  | ⟨0, _⟩ => show win0_2.index t 0 * 512 + 1 * (j 0).val = (j 0).val; rw [hi]; show 0 * 512 + _ = _; omega
  | ⟨1, _⟩ => show win0_2.index t 1 * 1024 + 1 * (j 1).val = (j 1).val; rw [hi]; show 0 * 1024 + _ = _; omega

/-- Channel `h` of the result for one batch. -/
def chosen (x : Vec F S4x8x3x512x512 .f32) (b : Fin 4) (h : Fin 3) : FVec F S512x512 .f32 :=
  select (cmpf .ogt (top (step x b 1) gaussTable lapTable) (top (step x b 0) gaussTable lapTable))
    (pick (step x b 1) gaussTable lapTable h) (pick (step x b 0) gaussTable lapTable h)

omit [FloatOps F] [Named F] in
theorem old_apply (xo : Vec F S1x3x512x512 .f32) (h : Fin 3) (r c : Fin 512) :
    old xo h (ix2 r c) = xo (ix4 0 h r c) := by
  unfold old
  rw [shapeCast_apply (s := S1x1x512x512) (t := S512x512) _ _ (ix2 r c) (ix4 0 0 r c)
    (by rw [Shape.rowMajor_val_two, Shape.rowMajor_val_four]
        show ((0 * 1 + 0) * 512 + r.val) * 512 + c.val = r.val * 512 + c.val
        omega)]
  refine View.ld_unit_apply_of (Val := Elt F) xo _ _ _ _ _ fun a => ?_
  match a with
  | ⟨0, _⟩ => rfl
  | ⟨1, _⟩ => show h.val = h.val + 0; omega
  | ⟨2, _⟩ => show r.val = 0 + r.val; omega
  | ⟨3, _⟩ => show c.val = 0 + c.val; omega

/-- The kernel's result, batch by batch. -/
theorem result_eq (c : Dev nD) (b : Fin 4) (h : Fin 3) (r q : Fin 512) :
    G3 m c (ix4 b h r q) = chosen (m ((c : Thread nD τ).loc main_arg0)) b h (ix2 r q) := by
  have hN : cfg0.N = 8 := N_0
  have hp : pt3Of (ix4 b h r q) = 2 * b.val + 1 := by
    show 2 * (1 * (b.val / 1 - 0) + 1 * (h.val / 3 - 0) + 1 * (r.val / 512 - 0) + 1 * (q.val / 512 - 0)) + 1 = _
    omega
  have hl : loc3Of (ix4 b h r q) = ix4 0 h r q := by
    funext a
    apply Fin.ext
    match a with
    | ⟨0, _⟩ => show b.val % 1 = 0; omega
    | ⟨1, _⟩ => show h.val % 3 = h.val; omega
    | ⟨2, _⟩ => show r.val % 512 = r.val; omega
    | ⟨3, _⟩ => show q.val % 512 = q.val; omega
  have h1 : 2 * b.val + 1 < cfg0.N := by omega
  have h0 : 2 * b.val < cfg0.N := by omega
  unfold G3
  rw [dif_pos (by rw [hp]; exact h1), fold0_congr m c _ _ (2 * b.val + 1) (by omega) hp,
    ← outsAt0_sweep m c (2 * b.val + 1) h1, outsAt0_succ,
    stAt0_B m c ⟨2 * b.val + 1, h1⟩ _ (by show ¬(2 * b.val + 1) % 2 = 0; omega) (by show (2 * b.val + 1) % 2 = 1; omega),
    outsAt0_A m c ⟨2 * b.val, h0⟩ (by show (2 * b.val) % 2 = 0; omega) (by show ¬(2 * b.val) % 2 = 1; omega), hl]
  dsimp only
  rw [out_next, best_first, iblk_gauss, iblk_lap, iblk_gauss, iblk_lap,
    iblk_input m c ⟨2 * b.val + 1, h1⟩ b 1 (by show (2 * b.val + 1) / 2 = _; omega) (by show (2 * b.val + 1) % 2 = 1; omega),
    iblk_input m c ⟨2 * b.val, h0⟩ b 0 (by show (2 * b.val) / 2 = _; omega) (by show (2 * b.val) % 2 = 0; omega)]
  unfold kept chosen
  show Scalar.select _ _ (old _ h (ix2 r q)) = Scalar.select _ _ _
  rw [old_apply, out_first]
  rfl

end Cert.KernelIdeal.Stage

end

end
-- ==== Proof.Table.Word.lean ====
module
public import Idealize.ShloMosaic.Adequacy

/-! The weights in the kernel's two band matrices, as arithmetic on the position in the matrix. A row of 512 pixels is
padded by two on either side, the border reflected: padded position `p` shows pixel `refl p`. Column `j` of a matrix
holds, in row `k`, the sum of the weights of those of the five taps at the padded positions `j … j + 4` that show pixel
`k`. -/

@[expose] public section

namespace Cert.Proof

/-- The pixel a row padded by two with reflection shows at a padded position. -/
def refl (p : ℕ) : ℕ := bif p.blt 2 then 2 - p else bif p.blt 514 then p - 2 else 1024 - p

/-- The weight of one tap, if it shows pixel `k`. -/
def tap (w k p : ℕ) : ℕ := bif (refl p).beq k then w else 0

/-- The binomial weights 1, 4, 6, 4, 1 at row `k` of column `j`. -/
def smooth (k j : ℕ) : ℕ := tap 1 k j + tap 4 k (j + 1) + tap 6 k (j + 2) + tap 4 k (j + 3) + tap 1 k (j + 4)

/-- The second difference's weights 1, 0, −2, 0, 1 at row `k` of column `j`, plus two. -/
def diff2 (k j : ℕ) : ℕ := 2 + tap 1 k j + tap 1 k (j + 4) - tap 2 k (j + 2)

end Cert.Proof

end
-- ==== Proof.Table.Edge.lean ====
module
public import proofs.«01_k».proof.Proof.Table.Word
public import Mathlib.Data.Real.Basic
public import Mathlib.Tactic.Ring
public import Mathlib.Algebra.BigOperators.Fin

/-! What the banded product with a column of weights is: the five taps. -/

@[expose] public section

namespace Cert.Proof

theorem refl_lt {p : ℕ} (hp : p < 516) : refl p < 512 := by
  unfold refl
  simp only [cond_eq_ite, Nat.blt_eq]
  split_ifs <;> omega

theorem refl_mid {p : ℕ} (h2 : 2 ≤ p) (hp : p < 514) : refl p = p - 2 := by
  unfold refl
  simp only [cond_eq_ite, Nat.blt_eq]
  split_ifs <;> omega

theorem tap_eq (w k p : ℕ) : tap w k p = if refl p = k then w else 0 := by
  unfold tap
  simp only [cond_eq_ite, Nat.beq_eq]

/-- One tap's part of a product picks the pixel it shows. -/
theorem sum_tap (a : ℕ → ℝ) (w p : ℕ) (hp : p < 516) :
    ∑ k : Fin 512, a k.val * (tap w k.val p : ℝ) = w * a (refl p) := by
  rw [Finset.sum_eq_single (⟨refl p, refl_lt hp⟩ : Fin 512)]
  · rw [tap_eq, if_pos rfl]; ring
  · intro k _ hk
    rw [tap_eq, if_neg (fun h => hk (Fin.ext h.symm))]
    simp
  · intro h
    exact absurd (Finset.mem_univ _) h

/-- The binomial taps along a row. -/
def binom (a : ℕ → ℝ) (j : ℕ) : ℝ :=
  a (refl j) + 4 * a (refl (j + 1)) + 6 * a (refl (j + 2)) + 4 * a (refl (j + 3)) + a (refl (j + 4))

/-- The second difference along a row. -/
def second (a : ℕ → ℝ) (j : ℕ) : ℝ := a (refl j) + a (refl (j + 4)) - 2 * a (refl (j + 2))

theorem sum_smooth (a : ℕ → ℝ) (j : ℕ) (hj : j < 512) :
    ∑ k : Fin 512, a k.val * (smooth k.val j : ℝ) = binom a j := by
  unfold smooth binom
  simp only [Nat.cast_add, mul_add, Finset.sum_add_distrib]
  rw [sum_tap _ _ _ (by omega), sum_tap _ _ _ (by omega), sum_tap _ _ _ (by omega), sum_tap _ _ _ (by omega),
    sum_tap _ _ _ (by omega)]
  push_cast
  ring

theorem diff2_cast (k j : ℕ) : ((diff2 k j : ℕ) : ℝ) - 2 = (tap 1 k j : ℝ) + tap 1 k (j + 4) - tap 2 k (j + 2) := by
  unfold diff2
  rw [Nat.cast_sub (by rw [tap_eq 2]; split_ifs <;> omega)]
  push_cast
  ring

theorem sum_diff2 (a : ℕ → ℝ) (j : ℕ) (hj : j < 512) :
    ∑ k : Fin 512, a k.val * ((diff2 k.val j : ℝ) - 2) = second a j := by
  unfold second
  simp only [diff2_cast, mul_sub, mul_add, Finset.sum_add_distrib, Finset.sum_sub_distrib]
  rw [sum_tap _ _ _ (by omega), sum_tap _ _ _ (by omega), sum_tap _ _ _ (by omega)]
  push_cast
  ring

end Cert.Proof

end
-- ==== Proof.Reading.lean ====
module
public import proofs.«01_k».proof.Proof.Region
public import proofs.«01_k».proof.Proof.Table.Edge

/-! The kernel's stages over the reals: an image that shows real numbers is blurred, and its Laplacian taken, by the five
taps along rows and columns, the border reflected. -/

@[expose] public section

noncomputable section

namespace Cert.Proof

/-- The binomial taps along both axes. -/
def blurR (f : ℕ → ℕ → ℝ) (i j : ℕ) : ℝ := binom (fun k => binom (f k) j) i / 256

/-- The Laplacian: the second difference along one axis, the binomial taps along the other, both ways. -/
def lapR (f : ℕ → ℕ → ℝ) (i j : ℕ) : ℝ := binom (fun k => second (f k) j) i + second (fun k => binom (f k) j) i

end Cert.Proof

namespace Cert.KernelIdeal.Stage

open Idealize.ShloMosaic Idealize.ShloMosaic.TcCoe
open Cert.KernelIdeal Cert.KernelIdeal.Gen Cert.Proof

/-- An image shows the real numbers `f`. -/
def Shows {φ : FTy} (v : FVec Ideal S512x512 φ) (f : ℕ → ℕ → ℝ) : Prop :=
  ∀ r c : Fin 512, v (ix2 r c) = ((f r.val c.val : ℝ) : EReal)

/-- The padded rows at padded row `p` are the image at the row shown there. -/
theorem padRows_apply (v : FVec Ideal S512x512 .bf16) (p : Fin 516) (k : Fin 512) :
    padRows v (ix2 p k) = v (ix2 ⟨Cert.Proof.refl p.val, refl_lt p.isLt⟩ k) := by
  unfold padRows
  pointwise
  have hp := p.isLt
  split_ifs with h0 h1 h2 h3
  all_goals
    congr 2
    apply Fin.ext
    dsimp only at *
    unfold Cert.Proof.refl
    simp only [cond_eq_ite, Nat.blt_eq]
    split_ifs <;> omega

/-- A real sum over the extended reals. -/
theorem coe_sum {n : ℕ} (a : Fin n → ℝ) : ∑ k, ((a k : ℝ) : EReal) = ((∑ k, a k : ℝ) : EReal) := by
  induction n with
  | zero => simp
  | succ n ih => rw [Fin.sum_univ_castSucc, Fin.sum_univ_castSucc, ih, EReal.coe_add]

/-- The kernel's weighted rows at a pixel. -/
theorem rowSym_apply (p : FVec Ideal S516x512 .f32) (a b c : Ideal .f32) (r q : Fin 512) :
    rowSym p a b c (ix2 r q)
      = a * (p (ix2 ⟨r.val, by omega⟩ q) + p (ix2 ⟨4 + r.val, by omega⟩ q))
        + b * (p (ix2 ⟨1 + r.val, by omega⟩ q) + p (ix2 ⟨3 + r.val, by omega⟩ q)) + c * p (ix2 ⟨2 + r.val, by omega⟩ q) := by
  unfold rowSym
  pointwise

theorem rowDiff_apply (p : FVec Ideal S516x512 .f32) (c : Ideal .f32) (r q : Fin 512) :
    rowDiff p c (ix2 r q)
      = p (ix2 ⟨r.val, by omega⟩ q) + p (ix2 ⟨4 + r.val, by omega⟩ q) - c * p (ix2 ⟨2 + r.val, by omega⟩ q) := by
  unfold rowDiff
  pointwise

theorem timesGauss_apply (g : Vec Ideal S512x512 .bf16) (v : FVec Ideal S512x512 .f32) (p : Fin 516) (j : Fin 512) :
    timesGauss g v (ix2 p j) = ∑ k : Fin 512, v (ix2 ⟨Cert.Proof.refl p.val, refl_lt p.isLt⟩ k) * g (ix2 k j) := by
  unfold timesGauss
  pointwise
  refine Finset.sum_congr rfl fun k _ => ?_
  rw [padRows_apply]
  rfl

theorem timesLap_apply (l : Vec Ideal S512x1024 .bf16) (v : FVec Ideal S512x512 .f32) (p : Fin 516) (j : Fin 1024) :
    timesLap l v (ix2 p j) = ∑ k : Fin 512, v (ix2 ⟨Cert.Proof.refl p.val, refl_lt p.isLt⟩ k) * l (ix2 k j) := by
  unfold timesLap
  pointwise
  refine Finset.sum_congr rfl fun k _ => ?_
  rw [padRows_apply]
  rfl

/-- The Gaussian table's reals: sixteenths of sums of weights. -/
def IsGauss (g : Vec Ideal S512x512 .bf16) : Prop :=
  ∀ k j : Fin 512, g (ix2 k j) = (((smooth k.val j.val : ℝ) / 16 : ℝ) : EReal)

/-- The Laplacian's table's reals: the second difference on the left, the sums of weights on the right. -/
def IsLap (l : Vec Ideal S512x1024 .bf16) : Prop :=
  ∀ k j : Fin 512, l (ix2 k ⟨j.val, by omega⟩) = (((diff2 k.val j.val : ℝ) - 2 : ℝ) : EReal)
    ∧ l (ix2 k ⟨512 + j.val, by omega⟩) = ((smooth k.val j.val : ℝ) : EReal)

variable {g : Vec Ideal S512x512 .bf16} {l : Vec Ideal S512x1024 .bf16} {v : FVec Ideal S512x512 .f32} {f : ℕ → ℕ → ℝ}

theorem timesGauss_real (hg : IsGauss g) (hv : Shows v f) (p : Fin 516) (j : Fin 512) :
    timesGauss g v (ix2 p j) = ((binom (f (Cert.Proof.refl p.val)) j.val / 16 : ℝ) : EReal) := by
  rw [timesGauss_apply, ← sum_smooth _ _ j.isLt, Finset.sum_div, ← coe_sum]
  refine Finset.sum_congr rfl fun k _ => ?_
  rw [hv, hg, ← EReal.coe_mul, mul_div_assoc]

theorem timesLap_left (hl : IsLap l) (hv : Shows v f) (p : Fin 516) (j : Fin 512) :
    timesLap l v (ix2 p ⟨j.val, by omega⟩) = ((second (f (Cert.Proof.refl p.val)) j.val : ℝ) : EReal) := by
  rw [timesLap_apply, ← sum_diff2 _ _ j.isLt, ← coe_sum]
  refine Finset.sum_congr rfl fun k _ => ?_
  rw [hv, (hl k j).1, ← EReal.coe_mul]

theorem timesLap_right (hl : IsLap l) (hv : Shows v f) (p : Fin 516) (j : Fin 512) :
    timesLap l v (ix2 p ⟨512 + j.val, by omega⟩) = ((binom (f (Cert.Proof.refl p.val)) j.val : ℝ) : EReal) := by
  rw [timesLap_apply, ← sum_smooth _ _ j.isLt, ← coe_sum]
  refine Finset.sum_congr rfl fun k _ => ?_
  rw [hv, (hl k j).2, ← EReal.coe_mul]

theorem w_sixteenth : (Scalar.ofBits .f32 0x3D800000#32 : Ideal .f32) = ((1 / 16 : ℝ) : EReal) := by
  show Ideal.ofBits .f32 _ = _
  simp [Ideal.ofBits, Ideal.ieee, -EReal.coe_mul]; norm_num
theorem w_quarter : (Scalar.ofBits .f32 0x3E800000#32 : Ideal .f32) = ((1 / 4 : ℝ) : EReal) := by
  show Ideal.ofBits .f32 _ = _
  simp [Ideal.ofBits, Ideal.ieee, -EReal.coe_mul]; norm_num
theorem w_three_eighths : (Scalar.ofBits .f32 0x3EC00000#32 : Ideal .f32) = ((3 / 8 : ℝ) : EReal) := by
  show Ideal.ofBits .f32 _ = _
  simp [Ideal.ofBits, Ideal.ieee, -EReal.coe_mul]; norm_num
theorem w_one : (Scalar.ofBits .f32 0x3F800000#32 : Ideal .f32) = ((1 : ℝ) : EReal) := by
  show Ideal.ofBits .f32 _ = _
  simp [Ideal.ofBits, Ideal.ieee, -EReal.coe_mul]; norm_num
theorem w_two : (Scalar.ofBits .f32 0x40000000#32 : Ideal .f32) = ((2 : ℝ) : EReal) := by
  show Ideal.ofBits .f32 _ = _
  simp [Ideal.ofBits, Ideal.ieee, -EReal.coe_mul]; norm_num
theorem w_four : (Scalar.ofBits .f32 0x40800000#32 : Ideal .f32) = ((4 : ℝ) : EReal) := by
  show Ideal.ofBits .f32 _ = _
  simp [Ideal.ofBits, Ideal.ieee, -EReal.coe_mul]; norm_num
theorem w_six : (Scalar.ofBits .f32 0x40C00000#32 : Ideal .f32) = ((6 : ℝ) : EReal) := by
  show Ideal.ofBits .f32 _ = _
  simp [Ideal.ofBits, Ideal.ieee, -EReal.coe_mul]; norm_num

theorem blur_real (hg : IsGauss g) (hv : Shows v f) : Shows (blur g v) (blurR f) := by
  intro r q
  unfold blur
  rw [rowSym_apply, w_sixteenth, w_quarter, w_three_eighths]
  simp only [timesGauss_real hg hv]
  norm_cast
  unfold blurR
  simp only [binom, Nat.add_comm r.val]
  ring

theorem laplace_real (hl : IsLap l) (hv : Shows v f) : Shows (laplace l v) (lapR f) := by
  intro r q
  unfold laplace
  rw [addf_apply, rowSym_apply, rowDiff_apply, w_one, w_two, w_four, w_six]
  pointwise
  simp only [timesLap_left hl hv, timesLap_right hl hv]
  norm_cast
  unfold lapR
  simp only [binom, second, Nat.add_comm r.val]
  ring

theorem chan_apply (x : Vec Ideal S1x4x3x512x512 .f32) (f : Fin 4) (h : Fin 3) (r c : Fin 512) :
    chan x f h (ix2 r c) = x (ix5 0 f h r c) := by
  unfold chan
  rw [shapeCast_apply (s := S1x1x1x512x512) (t := S512x512) _ _ (ix2 r c) (ix5 0 0 0 r c)
    (by rw [Shape.rowMajor_val_two, Shape.rowMajor_val_five]
        show (((0 * 1 + 0) * 1 + 0) * 512 + r.val) * 512 + c.val = r.val * 512 + c.val
        omega)]
  refine View.ld_unit_apply_of (Val := Elt Ideal) x _ _ _ _ _ fun a => ?_
  match a with
  | ⟨0, _⟩ => rfl
  | ⟨1, _⟩ => show f.val = f.val + 0; omega
  | ⟨2, _⟩ => show h.val = h.val + 0; omega
  | ⟨3, _⟩ => show r.val = 0 + r.val; omega
  | ⟨4, _⟩ => show c.val = 0 + c.val; omega

theorem third : (Named.named κ "third" 0x3EAAAAAB#32 : Ideal .f32) = ((1 / 3 : ℝ) : EReal) := rfl

/-- The mean of three channels of real numbers. -/
theorem grey_real {a b d : FVec Ideal S512x512 .f32} {p q w : ℕ → ℕ → ℝ} (ha : Shows a p) (hb : Shows b q) (hd : Shows d w) :
    Shows (grey a b d) (fun i j => (p i j + q i j + w i j) / 3) := by
  intro r c
  unfold grey
  rw [third]
  pointwise
  rw [ha, hb, hd]
  norm_cast
  ring

end Cert.KernelIdeal.Stage

end

end
-- ==== Proof.Knockout.lean ====
module
public import proofs.«01_k».proof.Proof.Reading

/-! The knock-out over the eight frames: comparing neighbours, then neighbouring pairs, then the halves, and taking the
later one only if it is strictly larger, finds the first frame of the largest focus measure. -/

@[expose] public section

noncomputable section

namespace Cert.Proof

open Idealize.ShloMosaic

/-- Frame `k` is the first of the frames `a … e - 1` with the largest measure. -/
def FirstMax (f : ℕ → ℝ) (a e k : ℕ) : Prop :=
  a ≤ k ∧ k < e ∧ ∀ j, a ≤ j → j < e → f j ≤ f k ∧ (j < k → f j < f k)

theorem FirstMax.unique {f : ℕ → ℝ} {a e k k' : ℕ} (h : FirstMax f a e k) (h' : FirstMax f a e k') : k = k' := by
  obtain ⟨h1, h2, h3⟩ := h
  obtain ⟨h1', h2', h3'⟩ := h'
  rcases lt_trichotomy k k' with hlt | heq | hgt
  · exact absurd ((h3' k h1 h2).2 hlt) (not_lt.2 (h3 k' h1' h2').1)
  · exact heq
  · exact absurd ((h3 k' h1' h2').2 hgt) (not_lt.2 (h3' k h1 h2).1)

/-- `v` is the largest measure of the frames `a … e - 1` and `p` the value at the first such frame. -/
def Wins (f : ℕ → ℝ) (x : ℕ → EReal) (a e : ℕ) (v p : EReal) : Prop :=
  ∃ k, FirstMax f a e k ∧ v = ((f k : ℝ) : EReal) ∧ p = x k

theorem wins_one (f : ℕ → ℝ) (x : ℕ → EReal) (a : ℕ) : Wins f x a (a + 1) ((f a : ℝ) : EReal) (x a) :=
  ⟨a, ⟨le_refl _, by omega, fun j h1 h2 => by
    obtain rfl : j = a := by omega
    exact ⟨le_refl _, fun h => absurd h (lt_irrefl _)⟩⟩, rfl, rfl⟩

/-- The later stretch wins if it is strictly larger. -/
theorem wins_later {f : ℕ → ℝ} {x : ℕ → EReal} {a d e : ℕ} {v p v' p' : EReal}
    (h : Wins f x a d v p) (h' : Wins f x d e v' p') :
    Wins f x a e (Scalar.select (FloatOps.cmpf (F := Ideal) (φ := .f32) .ogt v' v) v' v)
      (Scalar.select (FloatOps.cmpf (F := Ideal) (φ := .f32) .ogt v' v) p' p) := by
  obtain ⟨k, ⟨k1, k2, k3⟩, rfl, rfl⟩ := h
  obtain ⟨k', ⟨k1', k2', k3'⟩, rfl, rfl⟩ := h'
  have hc : FloatOps.cmpf (F := Ideal) (φ := .f32) .ogt ((f k' : ℝ) : EReal) ((f k : ℝ) : EReal)
      = BitVec.ofBool (decide (f k < f k')) := by
    show BitVec.ofBool (decide (((f k : ℝ) : EReal) < ((f k' : ℝ) : EReal))) = _
    simp only [EReal.coe_lt_coe_iff]
  rw [hc]
  by_cases hlt : f k < f k'
  · rw [decide_eq_true hlt]
    refine ⟨k', ⟨by omega, k2', fun j h1 h2 => ?_⟩, rfl, rfl⟩
    by_cases hj : j < d
    · have := (k3 j h1 hj).1
      exact ⟨by linarith, fun _ => by linarith⟩
    · exact k3' j (by omega) h2
  · rw [decide_eq_false hlt]
    refine ⟨k, ⟨k1, by omega, fun j h1 h2 => ?_⟩, rfl, rfl⟩
    by_cases hj : j < d
    · exact k3 j h1 hj
    · have := (k3' j (by omega) h2).1
      exact ⟨by linarith, fun hh => by omega⟩

end Cert.Proof

namespace Cert.KernelIdeal.Stage

open Idealize.ShloMosaic Idealize.ShloMosaic.TcCoe
open Cert.KernelIdeal Cert.KernelIdeal.Gen Cert.Proof

/-- A pixel's real number. -/
def pix (x : Vec Ideal S4x8x3x512x512 .f32) (b : Fin 4) (t : ℕ) (h : Fin 3) (r c : ℕ) : ℝ :=
  EReal.toReal (x (ix5 b ⟨t % 8, Nat.mod_lt _ (by decide)⟩ h ⟨r % 512, Nat.mod_lt _ (by decide)⟩ ⟨c % 512, Nat.mod_lt _ (by decide)⟩))

/-- A frame's grey image. -/
def greyR (x : Vec Ideal S4x8x3x512x512 .f32) (b : Fin 4) (t r c : ℕ) : ℝ :=
  (pix x b t 0 r c + pix x b t 1 r c + pix x b t 2 r c) / 3

/-- A frame's focus measure. -/
def focusR (x : Vec Ideal S4x8x3x512x512 .f32) (b : Fin 4) (r c t : ℕ) : ℝ := lapR (blurR (greyR x b t)) r c

/-- Every element is a real number. -/
def AllReal {s : Shape} (x : s.Idx → EReal) : Prop := ∀ i, x i = ((EReal.toReal (x i) : ℝ) : EReal)

variable {g : Vec Ideal S512x512 .bf16} {l : Vec Ideal S512x1024 .bf16} (x : Vec Ideal S4x8x3x512x512 .f32)

theorem chan_step (b : Fin 4) (s : Fin 2) (f : Fin 4) (h : Fin 3) (r c : Fin 512) :
    chan (step x b s) f h (ix2 r c) = x (ix5 b ⟨(4 * s.val + f.val) % 8, Nat.mod_lt _ (by decide)⟩ h r c) := by
  rw [chan_apply]
  unfold step
  congr 1
  funext a
  apply Fin.ext
  match a with
  | ⟨0, _⟩ => rfl
  | ⟨1, _⟩ => show 4 * s.val + f.val = (4 * s.val + f.val) % 8; omega
  | ⟨2, _⟩ => rfl
  | ⟨3, _⟩ => rfl
  | ⟨4, _⟩ => rfl

theorem chan_shows (hx : AllReal x) (b : Fin 4) (s : Fin 2) (f : Fin 4) (h : Fin 3) :
    Shows (chan (step x b s) f h) (pix x b (4 * s.val + f.val) h) := by
  intro r c
  rw [chan_step, hx]
  unfold pix
  simp only [Nat.mod_eq_of_lt r.isLt, Nat.mod_eq_of_lt c.isLt]

theorem focus_real (hg : IsGauss g) (hl : IsLap l) (hx : AllReal x) (b : Fin 4) (s : Fin 2) (f : Fin 4) (r c : Fin 512) :
    focus (step x b s) g l f (ix2 r c) = ((focusR x b r.val c.val (4 * s.val + f.val) : ℝ) : EReal) :=
  laplace_real hl (blur_real hg (grey_real (chan_shows x hx b s f 0) (chan_shows x hx b s f 1) (chan_shows x hx b s f 2))) r c

/-- A channel of the eight frames at one pixel. -/
def frames (b : Fin 4) (h : Fin 3) (r c : Fin 512) (t : ℕ) : EReal :=
  x (ix5 b ⟨t % 8, Nat.mod_lt _ (by decide)⟩ h r c)

theorem wins_frame (hg : IsGauss g) (hl : IsLap l) (hx : AllReal x) (b : Fin 4) (h : Fin 3) (s : Fin 2) (f : Fin 4)
    (r c : Fin 512) :
    Wins (focusR x b r.val c.val) (frames x b h r c) (4 * s.val + f.val) (4 * s.val + f.val + 1)
      (focus (step x b s) g l f (ix2 r c)) (chan (step x b s) f h (ix2 r c)) := by
  rw [focus_real x hg hl hx, chan_step]
  exact wins_one _ _ _

/-- One step's four frames. -/
theorem wins_step (hg : IsGauss g) (hl : IsLap l) (hx : AllReal x) (b : Fin 4) (h : Fin 3) (s : Fin 2) (r c : Fin 512) :
    Wins (focusR x b r.val c.val) (frames x b h r c) (4 * s.val) (4 * s.val + 4)
      (top (step x b s) g l (ix2 r c)) (pick (step x b s) g l h (ix2 r c)) :=
  wins_later (wins_later (wins_frame x hg hl hx b h s 0 r c) (wins_frame x hg hl hx b h s 1 r c))
    (wins_later (wins_frame x hg hl hx b h s 2 r c) (wins_frame x hg hl hx b h s 3 r c))

/-- The kernel's result: the pixel of the first frame of the largest focus measure. -/
theorem chosen_wins (hg : IsGauss gaussTable) (hl : IsLap lapTable) (hx : AllReal x) (b : Fin 4) (h : Fin 3) (r c : Fin 512) :
    ∃ k, FirstMax (focusR x b r.val c.val) 0 8 k ∧ chosen x b h (ix2 r c) = frames x b h r c k := by
  obtain ⟨k, hk, -, hp⟩ := wins_later (wins_step x hg hl hx b h 0 r c) (wins_step x hg hl hx b h 1 r c)
  exact ⟨k, hk, hp⟩

end Cert.KernelIdeal.Stage

end

end
-- ==== Proof.Finite.lean ====
module
public import proofs.«01_k».proof.Pre_finite
public import proofs.«01_k».proof.Proof.Knockout
public import Idealize.ShloMosaic.Lib.ReduceAll

/-! The precondition read back: every element of the input is a real number. -/

@[expose] public section

noncomputable section

namespace Cert.Pre_finite.Read

open Idealize.ShloMosaic
open Cert.KernelIdeal.Stage (AllReal)

/-- The predicate's side conditions. -/
theorem facts : Cert.Pre_finite.Facts where
  bcast_S_S4x8x3x512x512 := by decide
  reducesTo_S4x8x3x512x512_S_d0_1_2_3_4 := by decide
  h_S_ := by decide

/-- An extended real whose absolute value is below infinity is a real. -/
theorem real_of_abs {a : EReal} (h : max a (-a) < ⊤) : a = ((EReal.toReal a : ℝ) : EReal) := by
  refine (EReal.coe_toReal ?_ ?_).symm
  · rintro rfl
    simp at h
  · rintro rfl
    simp at h

theorem allReal [Cert.Pre_finite.Facts] (x : FVec Ideal S4x8x3x512x512 .f32)
    (h : Cert.Pre_finite.fn (F := Ideal) x = fun _ => 1#1) : AllReal x := by
  intro i
  have e := congrFun h (fun a => a.elim0)
  unfold Cert.Pre_finite.fn at e
  have hi := Host.reduce_andi_all _ _ _ _ _ e i
  have hlt : max (x i) (-(x i)) < (⊤ : EReal) := by
    have ht : Ideal.ofBits .f32 0x7F800000#32 = (⊤ : EReal) := by simp [Ideal.ofBits, Ideal.ieee]
    rw [← ht]
    by_contra hn
    change BitVec.ofBool (decide (max (x i) (-(x i)) < Ideal.ofBits .f32 0x7F800000#32)) = 1#1 at hi
    rw [decide_eq_false hn] at hi
    exact absurd hi (by decide)
  exact real_of_abs hlt

end Cert.Pre_finite.Read

end

end
-- ==== Proof.RefConv.lean ====
module
public import proofs.«01_k».proof.Proof.Knockout
public import proofs.«01_k».proof.Proof.Gen.ReferenceIdeal.Run

/-! The reference's convolution over the reals: the image padded by reflection, then twenty-five shifted products summed. -/

@[expose] public section

noncomputable section

namespace Cert.ReferenceIdeal.Stage

open Idealize.ShloMosaic Idealize.ShloMosaic.TcCoe
open Cert.ReferenceIdeal Cert.ReferenceIdeal.Gen Cert.ReferenceIdeal.Value Cert.Proof
open Cert.KernelIdeal.Stage (greyR pix focusR AllReal)

/-- Two more rows above, reflected. -/
def above (y : FVec Ideal S32x512x512 .f32) : FVec Ideal S32x514x512 .f32 :=
  concatenate S32x514x512 1 [⟨S32x2x512, (Host.reverse [1] (extractStridedSlice S32x2x512 ![0, 1, 0] y slices_S32x512x512_S32x2x512_0_1_0))⟩, ⟨S32x512x512, y⟩] concatenates_S32x2x512_S32x512x512_S32x514x512_d1

/-- Two more rows below. -/
def below (y : FVec Ideal S32x514x512 .f32) : FVec Ideal S32x516x512 .f32 :=
  concatenate S32x516x512 1 [⟨S32x514x512, y⟩, ⟨S32x2x512, (Host.reverse [1] (extractStridedSlice S32x2x512 ![0, 511, 0] y slices_S32x514x512_S32x2x512_0_511_0))⟩] concatenates_S32x514x512_S32x2x512_S32x516x512_d1

/-- Two more columns on the left. -/
def leftOf (y : FVec Ideal S32x516x512 .f32) : FVec Ideal S32x516x514 .f32 :=
  concatenate S32x516x514 2 [⟨S32x516x2, (Host.reverse [2] (extractStridedSlice S32x516x2 ![0, 0, 1] y slices_S32x516x512_S32x516x2_0_0_1))⟩, ⟨S32x516x512, y⟩] concatenates_S32x516x2_S32x516x512_S32x516x514_d2

/-- Two more columns on the right. -/
def rightOf (y : FVec Ideal S32x516x514 .f32) : FVec Ideal S32x516x516 .f32 :=
  concatenate S32x516x516 2 [⟨S32x516x514, y⟩, ⟨S32x516x2, (Host.reverse [2] (extractStridedSlice S32x516x2 ![0, 0, 511] y slices_S32x516x514_S32x516x2_0_0_511))⟩] concatenates_S32x516x514_S32x516x2_S32x516x516_d2

/-- The padded image. -/
def padded (y : FVec Ideal S32x512x512 .f32) : FVec Ideal S32x516x516 .f32 := rightOf (leftOf (below (above y)))

theorem above_apply (y : FVec Ideal S32x512x512 .f32) (t : Fin 32) (p : Fin 514) (q : Fin 512) :
    above y (ix3 t p q) = y (ix3 t ⟨if p.val < 2 then 2 - p.val else p.val - 2, by split_ifs <;> omega⟩ q) := by
  unfold above
  pointwise
  have hp := p.isLt
  split_ifs with h
  all_goals
    congr 2 <;> apply Fin.ext <;> simp [Fin.rev, h] <;> omega

theorem below_apply (y : FVec Ideal S32x514x512 .f32) (t : Fin 32) (p : Fin 516) (q : Fin 512) :
    below y (ix3 t p q) = y (ix3 t ⟨if p.val < 514 then p.val else 1026 - p.val, by split_ifs <;> omega⟩ q) := by
  unfold below
  pointwise
  have hp := p.isLt
  split_ifs with h
  all_goals
    congr 2 <;> apply Fin.ext <;> simp [Fin.rev, h] <;> omega

theorem leftOf_apply (y : FVec Ideal S32x516x512 .f32) (t : Fin 32) (p : Fin 516) (q : Fin 514) :
    leftOf y (ix3 t p q) = y (ix3 t p ⟨if q.val < 2 then 2 - q.val else q.val - 2, by split_ifs <;> omega⟩) := by
  unfold leftOf
  pointwise
  have hp := q.isLt
  split_ifs with h
  all_goals
    congr 2 <;> apply Fin.ext <;> simp [Fin.rev, h] <;> omega

theorem rightOf_apply (y : FVec Ideal S32x516x514 .f32) (t : Fin 32) (p : Fin 516) (q : Fin 516) :
    rightOf y (ix3 t p q) = y (ix3 t p ⟨if q.val < 514 then q.val else 1026 - q.val, by split_ifs <;> omega⟩) := by
  unfold rightOf
  pointwise
  have hp := q.isLt
  split_ifs with h
  all_goals
    congr 2 <;> apply Fin.ext <;> simp [Fin.rev, h] <;> omega

/-- The padded image at a padded position shows the pixel reflected into the image. -/
theorem padded_apply (y : FVec Ideal S32x512x512 .f32) (t : Fin 32) (p q : Fin 516) :
    padded y (ix3 t p q) = y (ix3 t ⟨Cert.Proof.refl p.val, refl_lt p.isLt⟩ ⟨Cert.Proof.refl q.val, refl_lt q.isLt⟩) := by
  have fold : ∀ k : ℕ, k < 516 → (if (if k < 514 then k else 1026 - k) < 2 then 2 - (if k < 514 then k else 1026 - k)
      else (if k < 514 then k else 1026 - k) - 2) = Cert.Proof.refl k := by
    intro k hk
    unfold Cert.Proof.refl
    simp only [cond_eq_ite, Nat.blt_eq]
    split_ifs <;> omega
  unfold padded
  rw [rightOf_apply, leftOf_apply, below_apply, above_apply]
  congr 2
  · exact Fin.ext (fold _ p.isLt)
  · exact Fin.ext (fold _ q.isLt)

/-- One tap: the padded image from a row and a column on, times one weight. -/
def tapAt (p : FVec Ideal S32x516x516 .f32) (w : FVec Ideal S5x5 .f32) (k l : ℕ)
    (hp : S32x516x516.Slices ![0, k, l] S32x512x512) (hw : S5x5.Slices ![k, l] S1x1) : FVec Ideal S32x512x512 .f32 :=
  mulf (extractStridedSlice S32x512x512 ![0, k, l] p hp)
    (broadcastInDim S32x512x512 ![] bcast_S_S32x512x512 (shapeCast _ (extractStridedSlice S1x1 ![k, l] w hw) shapeCasts_S1x1_S_))

theorem tapAt_apply (p : FVec Ideal S32x516x516 .f32) (w : FVec Ideal S5x5 .f32) (k l : Fin 5) (hp hw) (t : Fin 32) (r q : Fin 512) :
    tapAt p w k.val l.val hp hw (ix3 t r q) = p (ix3 t ⟨k.val + r.val, by omega⟩ ⟨l.val + q.val, by omega⟩) * w (ix2 k l) := by
  unfold tapAt
  pointwise

/-- The convolution of a padded image: the twenty-five taps, row by row. -/
def conv (p : FVec Ideal S32x516x516 .f32) (w : FVec Ideal S5x5 .f32) : FVec Ideal S32x512x512 .f32 :=
  addf (addf (addf (addf (addf (addf (addf (addf (addf (addf (addf (addf (addf (addf (addf (addf (addf (addf (addf (addf (addf (addf (addf (addf (tapAt p w 0 0 slices_S32x516x516_S32x512x512_0_0_0 slices_S5x5_S1x1_0_0)
      (tapAt p w 0 1 slices_S32x516x516_S32x512x512_0_0_1 slices_S5x5_S1x1_0_1))
      (tapAt p w 0 2 slices_S32x516x516_S32x512x512_0_0_2 slices_S5x5_S1x1_0_2))
      (tapAt p w 0 3 slices_S32x516x516_S32x512x512_0_0_3 slices_S5x5_S1x1_0_3))
      (tapAt p w 0 4 slices_S32x516x516_S32x512x512_0_0_4 slices_S5x5_S1x1_0_4))
      (tapAt p w 1 0 slices_S32x516x516_S32x512x512_0_1_0 slices_S5x5_S1x1_1_0))
      (tapAt p w 1 1 slices_S32x516x516_S32x512x512_0_1_1 slices_S5x5_S1x1_1_1))
      (tapAt p w 1 2 slices_S32x516x516_S32x512x512_0_1_2 slices_S5x5_S1x1_1_2))
      (tapAt p w 1 3 slices_S32x516x516_S32x512x512_0_1_3 slices_S5x5_S1x1_1_3))
      (tapAt p w 1 4 slices_S32x516x516_S32x512x512_0_1_4 slices_S5x5_S1x1_1_4))
      (tapAt p w 2 0 slices_S32x516x516_S32x512x512_0_2_0 slices_S5x5_S1x1_2_0))
      (tapAt p w 2 1 slices_S32x516x516_S32x512x512_0_2_1 slices_S5x5_S1x1_2_1))
      (tapAt p w 2 2 slices_S32x516x516_S32x512x512_0_2_2 slices_S5x5_S1x1_2_2))
      (tapAt p w 2 3 slices_S32x516x516_S32x512x512_0_2_3 slices_S5x5_S1x1_2_3))
      (tapAt p w 2 4 slices_S32x516x516_S32x512x512_0_2_4 slices_S5x5_S1x1_2_4))
      (tapAt p w 3 0 slices_S32x516x516_S32x512x512_0_3_0 slices_S5x5_S1x1_3_0))
      (tapAt p w 3 1 slices_S32x516x516_S32x512x512_0_3_1 slices_S5x5_S1x1_3_1))
      (tapAt p w 3 2 slices_S32x516x516_S32x512x512_0_3_2 slices_S5x5_S1x1_3_2))
      (tapAt p w 3 3 slices_S32x516x516_S32x512x512_0_3_3 slices_S5x5_S1x1_3_3))
      (tapAt p w 3 4 slices_S32x516x516_S32x512x512_0_3_4 slices_S5x5_S1x1_3_4))
      (tapAt p w 4 0 slices_S32x516x516_S32x512x512_0_4_0 slices_S5x5_S1x1_4_0))
      (tapAt p w 4 1 slices_S32x516x516_S32x512x512_0_4_1 slices_S5x5_S1x1_4_1))
      (tapAt p w 4 2 slices_S32x516x516_S32x512x512_0_4_2 slices_S5x5_S1x1_4_2))
      (tapAt p w 4 3 slices_S32x516x516_S32x512x512_0_4_3 slices_S5x5_S1x1_4_3))
      (tapAt p w 4 4 slices_S32x516x516_S32x512x512_0_4_4 slices_S5x5_S1x1_4_4)

theorem blurred_eq (V0 : Valuation τ sig (Elt Ideal)) :
    res_main_v169 V0 = conv (padded (res_main_v3 V0)) (res_main_v8 V0) := rfl

theorem lap_eq (V0 : Valuation τ sig (Elt Ideal)) :
    res_main_v322 V0 = shapeCast _ (broadcastInDim S32x3x512x512 ![0, 1, 2, 3] bcast_S32x1x512x512_S32x3x512x512_0_1_2_3
      (broadcastInDim S32x1x512x512 ![0, 2, 3] bcast_S32x512x512_S32x1x512x512_0_2_3
        (conv (padded (res_main_v169 V0)) (res_main_v19 V0)))) shapeCasts_S32x3x512x512_S4x8x3x512x512 := rfl

/-- The Gaussian's taps. -/
def gaussTap : ℕ → ℝ
  | 0 => 1 / 16 | 1 => 1 / 4 | 2 => 3 / 8 | 3 => 1 / 4 | _ => 1 / 16

/-- The binomial taps. -/
def smoothTap : ℕ → ℝ
  | 0 => 1 | 1 => 4 | 2 => 6 | 3 => 4 | _ => 1

/-- The second difference's taps. -/
def secondTap : ℕ → ℝ
  | 0 => 1 | 1 => 0 | 2 => -2 | 3 => 0 | _ => 1

theorem word_sixteenth : Ideal.ofBits .f32 0x3D800000#32 = ((1 / 16 : ℝ) : EReal) := by
  simp [Ideal.ofBits, Ideal.ieee, -EReal.coe_mul, -EReal.coe_neg]
  try norm_num

theorem word_quarter : Ideal.ofBits .f32 0x3E800000#32 = ((1 / 4 : ℝ) : EReal) := by
  simp [Ideal.ofBits, Ideal.ieee, -EReal.coe_mul, -EReal.coe_neg]
  try norm_num

theorem word_three_eighths : Ideal.ofBits .f32 0x3EC00000#32 = ((3 / 8 : ℝ) : EReal) := by
  simp [Ideal.ofBits, Ideal.ieee, -EReal.coe_mul, -EReal.coe_neg]
  try norm_num

theorem word_zero : Ideal.ofBits .f32 0x00000000#32 = ((0 : ℝ) : EReal) := by
  simp [Ideal.ofBits, Ideal.ieee, -EReal.coe_mul, -EReal.coe_neg]
  try norm_num

theorem word_one : Ideal.ofBits .f32 0x3F800000#32 = ((1 : ℝ) : EReal) := by
  simp [Ideal.ofBits, Ideal.ieee, -EReal.coe_mul, -EReal.coe_neg]
  try norm_num

theorem word_four : Ideal.ofBits .f32 0x40800000#32 = ((4 : ℝ) : EReal) := by
  simp [Ideal.ofBits, Ideal.ieee, -EReal.coe_mul, -EReal.coe_neg]
  try norm_num

theorem word_six : Ideal.ofBits .f32 0x40C00000#32 = ((6 : ℝ) : EReal) := by
  simp [Ideal.ofBits, Ideal.ieee, -EReal.coe_mul, -EReal.coe_neg]
  try norm_num

theorem word_minus_two : Ideal.ofBits .f32 0xC0000000#32 = ((-2 : ℝ) : EReal) := by
  simp [Ideal.ofBits, Ideal.ieee, -EReal.coe_mul, -EReal.coe_neg]
  try norm_num

theorem lit0_real (n k : Fin 5) (h : n.val = k.val) : Ideal.ofBits .f32 (lit0 n) = ((gaussTap k.val : ℝ) : EReal) := by
  obtain rfl : n = k := Fin.ext h
  fin_cases n
  exacts [word_sixteenth, word_quarter, word_three_eighths, word_quarter, word_sixteenth]

theorem lit1_real (n k : Fin 5) (h : n.val = k.val) : Ideal.ofBits .f32 (lit1 n) = ((smoothTap k.val : ℝ) : EReal) := by
  obtain rfl : n = k := Fin.ext h
  fin_cases n
  exacts [word_one, word_four, word_six, word_four, word_one]

theorem lit2_real (n k : Fin 5) (h : n.val = k.val) : Ideal.ofBits .f32 (lit2 n) = ((secondTap k.val : ℝ) : EReal) := by
  obtain rfl : n = k := Fin.ext h
  fin_cases n
  exacts [word_one, word_zero, word_minus_two, word_zero, word_one]

theorem gaussWeight (V0 : Valuation τ sig (Elt Ideal)) (k l : Fin 5) :
    res_main_v8 V0 (ix2 k l) = ((gaussTap k.val * gaussTap l.val : ℝ) : EReal) := by
  unfold res_main_v8 res_main_cst
  pointwise
  rw [EReal.coe_mul]
  exact congrArg₂ (· * ·) (lit0_real (S5.rowMajor (ix1 k)) k (Shape.rowMajor_val_one _))
    (lit0_real (S5.rowMajor (ix1 l)) l (Shape.rowMajor_val_one _))

theorem lapWeight (V0 : Valuation τ sig (Elt Ideal)) (k l : Fin 5) :
    res_main_v19 V0 (ix2 k l)
      = ((smoothTap k.val * secondTap l.val + secondTap k.val * smoothTap l.val : ℝ) : EReal) := by
  unfold res_main_v19 res_main_cst_0 res_main_cst_1
  pointwise
  rw [EReal.coe_add, EReal.coe_mul, EReal.coe_mul]
  exact congrArg₂ (· + ·)
    (congrArg₂ (· * ·) (lit1_real (S5.rowMajor (ix1 k)) k (Shape.rowMajor_val_one _))
      (lit2_real (S5.rowMajor (ix1 l)) l (Shape.rowMajor_val_one _)))
    (congrArg₂ (· * ·) (lit2_real (S5.rowMajor (ix1 k)) k (Shape.rowMajor_val_one _))
      (lit1_real (S5.rowMajor (ix1 l)) l (Shape.rowMajor_val_one _)))

/-- A stack of images shows real numbers. -/
def ShowsAll (y : FVec Ideal S32x512x512 .f32) (f : ℕ → ℕ → ℕ → ℝ) : Prop :=
  ∀ (t : Fin 32) (r q : Fin 512), y (ix3 t r q) = ((f t.val r.val q.val : ℝ) : EReal)

variable {y : FVec Ideal S32x512x512 .f32} {f : ℕ → ℕ → ℕ → ℝ} {w : FVec Ideal S5x5 .f32} {a : ℕ → ℕ → ℝ}

theorem tapAt_real (hy : ShowsAll y f) (hw : ∀ k l : Fin 5, w (ix2 k l) = ((a k.val l.val : ℝ) : EReal)) (k l : ℕ)
    (hk : k < 5) (hl : l < 5) (hp hs) (t : Fin 32) (r q : Fin 512) :
    tapAt (padded y) w k l hp hs (ix3 t r q)
      = ((f t.val (Cert.Proof.refl (r.val + k)) (Cert.Proof.refl (q.val + l)) * a k l : ℝ) : EReal) := by
  rw [tapAt_apply (padded y) w ⟨k, hk⟩ ⟨l, hl⟩ hp hs, padded_apply, hy, hw, ← EReal.coe_mul]
  simp only [Nat.add_comm]

theorem conv_blur (hy : ShowsAll y f)
    (hw : ∀ k l : Fin 5, w (ix2 k l) = ((gaussTap k.val * gaussTap l.val : ℝ) : EReal)) :
    ShowsAll (conv (padded y) w) fun t => blurR (f t) := by
  intro t r q
  unfold conv
  pointwise
  simp (disch := decide) only [tapAt_real (a := fun k l => gaussTap k * gaussTap l) hy hw, ← EReal.coe_add]
  congr 1
  unfold blurR
  simp only [binom, gaussTap, Nat.add_zero]
  ring

theorem conv_lap (hy : ShowsAll y f)
    (hw : ∀ k l : Fin 5, w (ix2 k l)
      = ((smoothTap k.val * secondTap l.val + secondTap k.val * smoothTap l.val : ℝ) : EReal)) :
    ShowsAll (conv (padded y) w) fun t => lapR (f t) := by
  intro t r q
  unfold conv
  pointwise
  simp (disch := decide) only [tapAt_real (a := fun k l => smoothTap k * secondTap l + secondTap k * smoothTap l) hy hw,
    ← EReal.coe_add]
  congr 1
  unfold lapR
  simp only [binom, second, smoothTap, secondTap, Nat.add_zero]
  ring

/-- The reference's focus measures, from the real numbers its grey images show. -/
theorem focus_shows {V0 : Valuation τ sig (Elt Ideal)} (h : ShowsAll (res_main_v3 V0) f) :
    ShowsAll (conv (padded (res_main_v169 V0)) (res_main_v19 V0)) fun t => lapR (blurR (f t)) := by
  refine conv_lap ?_ (lapWeight V0)
  rw [blurred_eq]
  exact conv_blur h (gaussWeight V0)

theorem grey_apply (V0 : Valuation τ sig (Elt Ideal)) (t : Fin 32) (r q : Fin 512) :
    res_main_v3 V0 (ix3 t r q) = Ideal.div
      (∑ h : Fin 3, (V0 (Proc.devRef .tc main_arg0) : FVec Ideal S4x8x3x512x512 .f32) (ix5 ⟨t.val / 8, by omega⟩ ⟨t.val % 8, by omega⟩ h r q))
      (Ideal.ofBits .f32 0x40400000#32) := by
  unfold res_main_v3
  pointwise

/-- The grey images over the reals: the mean of the three channels. -/
theorem grey_shows (V0 : Valuation τ sig (Elt Ideal)) (x : FVec Ideal S4x8x3x512x512 .f32)
    (hV : V0 (Proc.devRef .tc main_arg0) = x) (hx : AllReal x) :
    ShowsAll (res_main_v3 V0) fun t => greyR x ⟨t / 8 % 4, Nat.mod_lt _ (by decide)⟩ t := by
  intro t r q
  have hp : ∀ h : Fin 3, x (ix5 ⟨t.val / 8, by omega⟩ ⟨t.val % 8, by omega⟩ h r q)
      = ((pix x ⟨t.val / 8 % 4, Nat.mod_lt _ (by decide)⟩ t.val h r.val q.val : ℝ) : EReal) := by
    intro h
    rw [hx]
    unfold pix
    simp only [Nat.mod_eq_of_lt r.isLt, Nat.mod_eq_of_lt q.isLt, Nat.mod_eq_of_lt (show t.val / 8 < 4 by omega)]
  have h3 : Ideal.ofBits .f32 0x40400000#32 = ((3 : ℝ) : EReal) := by
    simp [Ideal.ofBits, Ideal.ieee, -EReal.coe_mul]; norm_num
  rw [grey_apply, hV]
  simp only [hp, Fin.sum_univ_three]
  rw [h3, ← EReal.coe_add, ← EReal.coe_add]
  refine (Ideal.div_coe (y := 3) (by norm_num) _).trans ?_
  unfold greyR
  rw [← EReal.coe_mul, mul_one_div]

theorem measure_apply (V0 : Valuation τ sig (Elt Ideal)) (b : Fin 4) (s : Fin 8) (h : Fin 3) (r q : Fin 512) :
    res_main_v322 V0 (ix5 b s h r q)
      = conv (padded (res_main_v169 V0)) (res_main_v19 V0) (ix3 ⟨b.val * 8 + s.val, by omega⟩ r q) := by
  rw [lap_eq]
  generalize conv (padded (res_main_v169 V0)) (res_main_v19 V0) = y
  pointwise

/-- The measure the reference compares. -/
theorem measure_real (V0 : Valuation τ sig (Elt Ideal)) (x : FVec Ideal S4x8x3x512x512 .f32)
    (hV : V0 (Proc.devRef .tc main_arg0) = x) (hx : AllReal x) (b : Fin 4) (s : Fin 8) (h : Fin 3) (r q : Fin 512) :
    res_main_v322 V0 (ix5 b s h r q) = ((focusR x b r.val q.val s.val : ℝ) : EReal) := by
  rw [measure_apply, focus_shows (grey_shows V0 x hV hx)]
  have hb : (⟨(b.val * 8 + s.val) / 8 % 4, Nat.mod_lt _ (by decide)⟩ : Fin 4) = b := Fin.ext (by show (b.val * 8 + s.val) / 8 % 4 = b.val; omega)
  have hs : ∀ i j, greyR x b (b.val * 8 + s.val) i j = greyR x b s.val i j := by
    intro i j
    have hm : (b.val * 8 + s.val) % 8 = s.val % 8 := by omega
    unfold greyR pix
    simp only [hm]
  show ((lapR (blurR (greyR x ⟨(b.val * 8 + s.val) / 8 % 4, _⟩ (b.val * 8 + s.val))) r.val q.val : ℝ) : EReal) = _
  rw [hb, show greyR x b (b.val * 8 + s.val) = greyR x b s.val from funext fun i => funext (hs i)]
  rfl

end Cert.ReferenceIdeal.Stage

end

end
-- ==== Proof.RefPick.lean ====
module
public import proofs.«01_k».proof.Proof.RefConv

/-! The reference's choice: the least frame whose measure is the largest, and the gather of that frame's pixel. -/

@[expose] public section

noncomputable section

namespace Cert.ReferenceIdeal.Stage

open Idealize.ShloMosaic Idealize.ShloMosaic.TcCoe
open Cert.ReferenceIdeal Cert.ReferenceIdeal.Gen Cert.ReferenceIdeal.Value Cert.Proof
open Cert.KernelIdeal.Stage (greyR pix focusR AllReal)

/-- The largest measure over the frames. -/
def peak (y : FVec Ideal S4x8x3x512x512 .f32) : FVec Ideal S4x3x512x512 .f32 :=
  Host.reduce FloatOps.maximumf y (constant S_ .f32 0xFF800000#32) reducesTo_S4x8x3x512x512_S4x3x512x512_d1 h_S_

/-- Each frame's number where its measure is the largest, eight elsewhere. -/
def candidates (y : FVec Ideal S4x8x3x512x512 .f32) : IVec S4x8x3x512x512 32 :=
  select (cmpf .oeq y (broadcastInDim S4x8x3x512x512 ![0, 1, 2, 3, 4] bcast_S4x1x3x512x512_S4x8x3x512x512_0_1_2_3_4 (broadcastInDim S4x1x3x512x512 ![0, 2, 3, 4] bcast_S4x3x512x512_S4x1x3x512x512_0_2_3_4 (peak y)))) (iotaInDim S4x8x3x512x512 32 1) (broadcastInDim S4x8x3x512x512 ![] bcast_S_S4x8x3x512x512 (id (constantI S_ 32 8#32)))

/-- The least candidate. -/
def first (y : FVec Ideal S4x8x3x512x512 .f32) : IVec S4x3x512x512 32 :=
  Host.reduce IntOp.minsi (candidates y) (constantI S_ 32 2147483647#32) reducesTo_S4x8x3x512x512_S4x3x512x512_d1 h_S_

theorem index_eq (V0 : Valuation τ sig (Elt Ideal)) :
    res_main_v330 V0 = shapeCast _ (first (res_main_v322 V0)) shapeCasts_S4x3x512x512_S3145728 := rfl

theorem peak_apply (y : FVec Ideal S4x8x3x512x512 .f32) (b : Fin 4) (h : Fin 3) (r q : Fin 512) :
    peak y (ix4 b h r q)
      = (Finset.univ : Finset (Fin 8)).fold max (Ideal.ofBits .f32 0xFF800000#32) fun s => y (ix5 b s h r q) := by
  unfold peak
  pointwise

theorem candidates_apply (y : FVec Ideal S4x8x3x512x512 .f32) (b : Fin 4) (s : Fin 8) (h : Fin 3) (r q : Fin 512) :
    candidates y (ix5 b s h r q)
      = if y (ix5 b s h r q) = peak y (ix4 b h r q) then BitVec.ofNat 32 s.val else BitVec.ofNat 32 8 := by
  unfold candidates
  pointwise
  rfl

theorem first_apply (y : FVec Ideal S4x8x3x512x512 .f32) (b : Fin 4) (h : Fin 3) (r q : Fin 512) :
    first y (ix4 b h r q)
      = (Finset.univ : Finset (Fin 8)).fold IntOp.minsi 2147483647#32 fun s => candidates y (ix5 b s h r q) := by
  unfold first
  pointwise

/-- A small number's word reads signed as the number. -/
theorem toInt_small {j : ℕ} (h : j < 2 ^ 31) : (BitVec.ofNat 32 j).toInt = j := by
  rw [BitVec.toInt_eq_toNat_of_lt (by rw [BitVec.toNat_ofNat]; omega), BitVec.toNat_ofNat]
  omega

theorem minsi_toInt (a b : BitVec 32) : (IntOp.minsi a b).toInt = min a.toInt b.toInt := by
  unfold IntOp.minsi
  simp only [BitVec.slt, decide_eq_true_eq]
  split_ifs <;> omega

/-- The least of eight small words. -/
theorem fold_minsi (g : Fin 8 → ℕ) (hg : ∀ s, g s < 2 ^ 31) (k : Fin 8) (hk : ∀ s, g k ≤ g s) :
    (Finset.univ : Finset (Fin 8)).fold IntOp.minsi 2147483647#32 (fun s => BitVec.ofNat 32 (g s)) = BitVec.ofNat 32 (g k) := by
  have lo := (Finset.fold_op_rel_iff_and (r := fun a b : BitVec 32 => a.toInt ≤ b.toInt) (op := IntOp.minsi)
    (s := (Finset.univ : Finset (Fin 8))) (f := fun s => BitVec.ofNat 32 (g s)) (b := 2147483647#32)
    (fun {x y z} => by rw [minsi_toInt]; exact le_min_iff) (c := BitVec.ofNat 32 (g k))).2
    ⟨by rw [toInt_small (hg k)]; have := hg k; show (g k : ℤ) ≤ 2147483647; omega,
      fun s _ => by rw [toInt_small (hg k), toInt_small (hg s)]; exact_mod_cast hk s⟩
  have hi := (Finset.fold_op_rel_iff_or (r := fun a b : BitVec 32 => b.toInt ≤ a.toInt) (op := IntOp.minsi)
    (s := (Finset.univ : Finset (Fin 8))) (f := fun s => BitVec.ofNat 32 (g s)) (b := 2147483647#32)
    (fun {x y z} => by rw [minsi_toInt]; exact min_le_iff) (c := BitVec.ofNat 32 (g k))).2
    (Or.inr ⟨k, Finset.mem_univ _, le_refl _⟩)
  exact BitVec.eq_of_toInt_eq (le_antisymm hi lo)

section Pick

variable {y : FVec Ideal S4x8x3x512x512 .f32} {f : ℕ → ℝ} {b : Fin 4} {h : Fin 3} {r q : Fin 512} {k : ℕ}

/-- The largest measure is the first winner's. -/
theorem peak_real (hy : ∀ s : Fin 8, y (ix5 b s h r q) = ((f s.val : ℝ) : EReal)) (hk : FirstMax f 0 8 k) :
    peak y (ix4 b h r q) = ((f k : ℝ) : EReal) := by
  obtain ⟨-, h8, hm⟩ := hk
  have hb : Ideal.ofBits .f32 0xFF800000#32 = (⊥ : EReal) := by simp [Ideal.ofBits, Ideal.ieee]
  rw [peak_apply, hb]
  refine le_antisymm (Finset.fold_max_le _ |>.2 ⟨bot_le, fun s _ => ?_⟩) (Finset.le_fold_max _ |>.2 (Or.inr ⟨⟨k, h8⟩, Finset.mem_univ _, ?_⟩))
  · rw [hy]
    exact EReal.coe_le_coe_iff.2 (hm s.val (Nat.zero_le _) s.isLt).1
  · rw [hy]

/-- The least frame of the largest measure is the first winner. -/
theorem first_real (hy : ∀ s : Fin 8, y (ix5 b s h r q) = ((f s.val : ℝ) : EReal)) (hk : FirstMax f 0 8 k) :
    first y (ix4 b h r q) = BitVec.ofNat 32 k := by
  have hc : ∀ s : Fin 8, candidates y (ix5 b s h r q) = BitVec.ofNat 32 (if f s.val = f k then s.val else 8) := by
    intro s
    rw [candidates_apply, peak_real hy hk, hy]
    simp only [EReal.coe_eq_coe_iff]
    split_ifs <;> rfl
  rw [first_apply]
  simp only [hc]
  obtain ⟨-, h8, hm⟩ := hk
  rw [fold_minsi (fun s : Fin 8 => if f s.val = f k then s.val else 8) (fun s => by split_ifs <;> omega) ⟨k, h8⟩]
  · simp
  · intro s
    have hs := s.isLt
    simp only [if_true]
    split_ifs with he
    · by_contra hlt
      have := (hm s.val (Nat.zero_le _) hs).2 (by omega)
      exact absurd he (ne_of_lt this)
    · omega

end Pick

/-- The pixels as a table of frames. -/
def table (x : FVec Ideal S4x8x3x512x512 .f32) : FVec Ideal S8x3145728 .f32 :=
  shapeCast _ (transpose S8x4x3x512x512 [1, 0, 2, 3, 4] x transposes_S4x8x3x512x512_S8x4x3x512x512_1_0_2_3_4) shapeCasts_S8x4x3x512x512_S8x3145728

theorem table_apply (x : FVec Ideal S4x8x3x512x512 .f32) (s : Fin 8) (b : Fin 4) (h : Fin 3) (r q : Fin 512) :
    table x (ix2 s ⟨b.val * 786432 + h.val * 262144 + r.val * 512 + q.val, by omega⟩) = x (ix5 b s h r q) := by
  unfold table
  pointwise

/-- The gather's index pairs: the frame and the position. -/
def pairs (k n : IVec S3145728 32) : IVec S3145728x2 32 :=
  concatenate S3145728x2 1 [⟨S3145728x1, (broadcastInDim S3145728x1 ![0] bcast_S3145728_S3145728x1_0 (select (cmpi .slt k (broadcastInDim S3145728 ![] bcast_S_S3145728 (constantI S_ 32 0#32))) (addi k (broadcastInDim S3145728 ![] bcast_S_S3145728 (constantI S_ 32 8#32))) k))⟩, ⟨S3145728x1, (broadcastInDim S3145728x1 ![0] bcast_S3145728_S3145728x1_0 (select (cmpi .slt n (broadcastInDim S3145728 ![] bcast_S_S3145728 (constantI S_ 32 0#32))) (addi n (broadcastInDim S3145728 ![] bcast_S_S3145728 (constantI S_ 32 3145728#32))) n))⟩] concatenates_S3145728x1_S3145728x1_S3145728x2_d1

/-- An index that is not negative is not wrapped. -/
theorem unwrapped {j : ℕ} (hj : j < 2 ^ 31) (v : BitVec 32) :
    Scalar.select (IntOp.cmpi .slt (BitVec.ofNat 32 j) 0#32) v (BitVec.ofNat 32 j) = BitVec.ofNat 32 j := by
  have h : (BitVec.ofNat 32 j).slt 0#32 = false := by
    rw [BitVec.slt, toInt_small hj]
    simp
  simp [Scalar.select, IntOp.cmpi, h]

theorem pairs_left (k n : IVec S3145728 32) (i : Fin 3145728) {j : ℕ} (hj : j < 2 ^ 31) (hk : k (ix1 i) = BitVec.ofNat 32 j) :
    pairs k n (ix2 i 0) = BitVec.ofNat 32 j := by
  unfold pairs
  pointwise
  rw [hk]
  exact unwrapped hj _

theorem pairs_right (k n : IVec S3145728 32) (i : Fin 3145728) {j : ℕ} (hj : j < 2 ^ 31) (hn : n (ix1 i) = BitVec.ofNat 32 j) :
    pairs k n (ix2 i 1) = BitVec.ofNat 32 j := by
  unfold pairs
  pointwise
  rw [hn]
  exact unwrapped hj _

theorem gather_apply (x : FVec Ideal S8x3145728 .f32) (p : IVec S3145728x2 32) (n : Fin 3145728) :
    Host.gather gather_S8x3145728_S3145728x2_S3145728_n_01_n_n_01_1_11 x p (ix1 n)
      = x (ix2 ⟨min (p (ix2 n 0)).toInt.toNat 7, by omega⟩ ⟨min (p (ix2 n 1)).toInt.toNat 3145727, by omega⟩) := by
  unfold Host.gather
  congr 1
  funext a
  refine Fin.ext ?_
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  have hm : a ∈ [(0 : Fin 2), 1] := by rcases h01 with rfl | rfl <;> decide
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos (show a ∈ GatherDims.startIndexMap _ from hm)]
  rcases h01 with rfl | rfl
  · refine congrArg (fun v => min (p v).toInt.toNat 7) (?_ : _ = ix2 n 0)
    funext c
    refine Fin.ext ?_
    match c with
    | ⟨0, _⟩ => rfl
    | ⟨1, _⟩ => rfl
  · refine congrArg (fun v => min (p v).toInt.toNat 3145727) (?_ : _ = ix2 n 1)
    funext c
    refine Fin.ext ?_
    match c with
    | ⟨0, _⟩ => rfl
    | ⟨1, _⟩ => rfl

/-- The reference's result, from the frame table and the index pairs. -/
def result (V0 : Valuation τ sig (Elt Ideal)) : FVec Ideal S4x3x512x512 .f32 :=
  shapeCast _ (Host.gather gather_S8x3145728_S3145728x2_S3145728_n_01_n_n_01_1_11
    (table (V0 (Proc.devRef .tc main_arg0))) (pairs (res_main_v330 V0) (res_main_v333 V0))) shapeCasts_S3145728_S4x3x512x512

/-- The reference's result is the pixel of the first frame of the largest focus measure. -/
theorem result_apply (V0 : Valuation τ sig (Elt Ideal)) (x : FVec Ideal S4x8x3x512x512 .f32)
    (hV : V0 (Proc.devRef .tc main_arg0) = x) (hx : AllReal x) (b : Fin 4) (h : Fin 3) (r q : Fin 512) {k : ℕ}
    (hk : FirstMax (focusR x b r.val q.val) 0 8 k) : result V0 (ix4 b h r q) = Cert.KernelIdeal.Stage.frames x b h r q k := by
  have h8 : k < 8 := hk.2.1
  have hn : b.val * 786432 + h.val * 262144 + r.val * 512 + q.val < 3145728 := by omega
  have hl : res_main_v330 V0 (ix1 ⟨b.val * 786432 + h.val * 262144 + r.val * 512 + q.val, hn⟩) = BitVec.ofNat 32 k := by
    rw [← first_real (b := b) (h := h) (r := r) (q := q) (fun s => measure_real V0 x hV hx b s h r q) hk, index_eq]
    generalize first (res_main_v322 V0) = z
    pointwise
  have hr : res_main_v333 V0 (ix1 ⟨b.val * 786432 + h.val * 262144 + r.val * 512 + q.val, hn⟩)
      = BitVec.ofNat 32 (b.val * 786432 + h.val * 262144 + r.val * 512 + q.val) := by
    unfold res_main_v333
    pointwise
  have hp := pairs_left (res_main_v330 V0) (res_main_v333 V0) _ (by omega) hl
  have hq := pairs_right (res_main_v330 V0) (res_main_v333 V0) _ (by omega) hr
  unfold result
  rw [hV]
  generalize pairs (res_main_v330 V0) (res_main_v333 V0) = p at *
  pointwise
  rw [gather_apply]
  simp only [hp, hq, toInt_small (show k < 2 ^ 31 by omega), toInt_small (show _ < 2 ^ 31 from lt_trans hn (by norm_num))]
  refine Eq.trans ?_ ((table_apply x ⟨k, h8⟩ b h r q).trans ?_)
  · refine congrArg₂ (fun a c => table x (ix2 a c)) (Fin.ext ?_) (Fin.ext ?_)
    · show min (k : ℤ).toNat 7 = k
      omega
    · show min ((b.val * 786432 + h.val * 262144 + r.val * 512 + q.val : ℕ) : ℤ).toNat 3145727
        = b.val * 786432 + h.val * 262144 + r.val * 512 + q.val
      omega
  · unfold Cert.KernelIdeal.Stage.frames
    simp only [Nat.mod_eq_of_lt h8]

end Cert.ReferenceIdeal.Stage

end

end
-- ==== Proof.Table.Values.lean ====
module
public import proofs.«01_k».proof.Proof.Reading
public import proofs.«01_k».proof.Proof.Table.Host

/-! The two band matrices over the reals: each tap's weight stands in the row of the pixel it shows, so an entry is the
sum of the weights of the taps that show its row. -/

@[expose] public section

noncomputable section

namespace Cert.Proof

open Idealize.ShloMosaic Idealize.ShloMosaic.TcCoe
open Cert.KernelIdeal Cert.KernelIdeal.Gen Cert.KernelIdeal.Stage

/-- The host's offset of tap `e`, as a word: two less. -/
abbrev back (e : ℕ) : BitVec 32 := BitVec.ofNat 32 (4294967294 + e)

/-- The host's choice of pixel, as a choice between words. -/
theorem shown_word (p : BitVec 32) :
    Scalar.select (IntOp.cmpi .slt p 0#32) (-p) (Scalar.select (IntOp.cmpi .sge p 512#32) (IntOp.subi (1022#32) p) p)
      = if p.toInt < 0 then -p else if 512 ≤ p.toInt then 1022#32 - p else p := by
  have h0 : (0#32).toInt = 0 := rfl
  have h1 : (512#32).toInt = 512 := rfl
  unfold Scalar.select IntOp.cmpi IntOp.subi
  simp only [BitVec.slt, BitVec.sle, h0, h1]
  by_cases ha : p.toInt < 0 <;> by_cases hb : 512 ≤ p.toInt <;> simp [ha, hb]

/-- The border's reflection on words. -/
theorem reflect_word (e j : ℕ) (he : e < 5) (hj : j < 512) (p : BitVec 32) (hp : p = BitVec.ofNat 32 j + back e) :
    (if p.toInt < 0 then -p else if 512 ≤ p.toInt then 1022#32 - p else p) = BitVec.ofNat 32 (Cert.Proof.refl (j + e)) := by
  have hn : p.toNat = (j + (4294967294 + e)) % 4294967296 := by
    rw [hp, BitVec.toNat_add, BitVec.toNat_ofNat, BitVec.toNat_ofNat]
    omega
  have hi : p.toInt = (j : ℤ) + e - 2 := by
    rw [BitVec.toInt_eq_toNat_cond, hn]
    split_ifs <;> omega
  rw [hi]
  unfold Cert.Proof.refl
  simp only [cond_eq_ite, Nat.blt_eq]
  apply BitVec.eq_of_toNat_eq
  split_ifs <;> simp only [BitVec.toNat_neg, BitVec.toNat_sub, BitVec.toNat_ofNat, hn] <;> omega

theorem shown_apply (e : ℕ) (he : e < 5) (k j : Fin 512) :
    shown (back e) (ix2 k j) = BitVec.ofNat 32 (Cert.Proof.refl (j.val + e)) := by
  unfold shown offset words
  pointwise
  rw [shown_word]
  exact reflect_word e j.val he j.isLt _ rfl

theorem weight_apply (e : ℕ) (he : e < 5) (w : BitVec 32) (k j : Fin 512) :
    (weight (back e) w : FVec Ideal S512x512 .f32) (ix2 k j)
      = if Cert.Proof.refl (j.val + e) = k.val then Scalar.ofBits .f32 w else 0 := by
  unfold weight floats
  pointwise
  rw [shown_apply e he k j]
  have hr := refl_lt (p := j.val + e) (by omega)
  have hk := k.isLt
  have h : (BitVec.ofNat 32 k.val == BitVec.ofNat 32 (Cert.Proof.refl (j.val + e)))
      = decide (Cert.Proof.refl (j.val + e) = k.val) := by
    rw [Bool.eq_iff_iff, beq_iff_eq, decide_eq_true_eq]
    constructor
    · intro h
      have := congrArg BitVec.toNat h
      rw [BitVec.toNat_ofNat, BitVec.toNat_ofNat] at this
      omega
    · intro h
      rw [h]
  unfold Scalar.select IntOp.cmpi
  by_cases ha : Cert.Proof.refl (j.val + e) = k.val <;> simp [h, ha]

/-- A tap of real weight `u`, a multiple `w` of `s`. -/
theorem weight_real (e : ℕ) (he : e < 5) {w : BitVec 32} {s : ℝ} {n : ℕ}
    (hw : (Scalar.ofBits .f32 w : Ideal .f32) = ((n * s : ℝ) : EReal)) (k j : Fin 512) :
    (weight (back e) w : FVec Ideal S512x512 .f32) (ix2 k j) = (((tap n k.val (j.val + e) : ℝ) * s : ℝ) : EReal) := by
  rw [weight_apply e he, hw, tap_eq]
  split_ifs <;> simp

theorem w_neg_two : (Scalar.ofBits .f32 0xC0000000#32 : Ideal .f32) = ((-2 : ℝ) : EReal) := by
  show Ideal.ofBits .f32 _ = _
  simp [Ideal.ofBits, Ideal.ieee, -EReal.coe_mul, -EReal.coe_neg]; norm_num

theorem zeros_apply (k j : Fin 512) : (floats 0x00000000#32 : FVec Ideal S512x512 .f32) (ix2 k j) = 0 := by
  unfold floats
  pointwise

theorem sum_five (z a b c d e : FVec Ideal S512x512 .f32) (i : S512x512.Idx) :
    addf (addf (addf (addf (addf z a) b) c) d) e i = (z i + a i + b i + c i + d i + e i : EReal) := rfl

theorem sum_three (z a b c : FVec Ideal S512x512 .f32) (i : S512x512.Idx) :
    addf (addf (addf z a) b) c i = (z i + a i + b i + c i : EReal) := rfl

theorem back_zero : 4294967294#32 = back 0 := rfl
theorem back_one : 4294967295#32 = back 1 := rfl
theorem back_two : 0#32 = back 2 := rfl
theorem back_three : 1#32 = back 3 := rfl
theorem back_four : 2#32 = back 4 := rfl

/-- Five taps whose weights are 1, 4, 6, 4, 1 times one number. -/
theorem five_real {u v w : BitVec 32} {s : ℝ} (hu : (Scalar.ofBits .f32 u : Ideal .f32) = (((1 : ℕ) * s : ℝ) : EReal))
    (hv : (Scalar.ofBits .f32 v : Ideal .f32) = (((4 : ℕ) * s : ℝ) : EReal))
    (hw : (Scalar.ofBits .f32 w : Ideal .f32) = (((6 : ℕ) * s : ℝ) : EReal)) (k j : Fin 512) :
    (five u v w : FVec Ideal S512x512 .f32) (ix2 k j) = (((smooth k.val j.val : ℝ) * s : ℝ) : EReal) := by
  unfold five
  rw [sum_five, zeros_apply, back_zero, back_one, back_two, back_three, back_four, weight_real 0 (by omega) hu,
    weight_real 1 (by omega) hv, weight_real 2 (by omega) hw, weight_real 3 (by omega) hv, weight_real 4 (by omega) hu]
  unfold smooth
  simp only [zero_add, Nat.add_zero, ← EReal.coe_add]
  congr 1
  push_cast
  ring

/-- The second difference's taps. -/
theorem three_real (k j : Fin 512) :
    (three 0x3F800000#32 0xC0000000#32 : FVec Ideal S512x512 .f32) (ix2 k j)
      = (((diff2 k.val j.val : ℝ) - 2 : ℝ) : EReal) := by
  have hu : (Scalar.ofBits .f32 0x3F800000#32 : Ideal .f32) = (((1 : ℕ) * (1 : ℝ) : ℝ) : EReal) := by
    rw [w_one]; norm_num
  have hw : (Scalar.ofBits .f32 0xC0000000#32 : Ideal .f32) = (((2 : ℕ) * (-1 : ℝ) : ℝ) : EReal) := by
    rw [w_neg_two]; norm_num
  unfold three
  rw [sum_three, zeros_apply, back_zero, back_two, back_four, weight_real 0 (by omega) hu,
    weight_real 2 (by omega) hw, weight_real 4 (by omega) hu, diff2_cast]
  simp only [zero_add, Nat.add_zero, ← EReal.coe_add]
  congr 1
  ring

/-- The Gaussian band matrix holds sixteenths of the sums of binomial weights. -/
theorem isGauss : IsGauss gaussTable := by
  intro k j
  refine Eq.trans (five_real (s := 1 / 16) ?_ ?_ ?_ k j) ?_
  · rw [w_sixteenth]; norm_num
  · rw [w_quarter]; norm_num
  · rw [w_three_eighths]; norm_num
  · congr 1
    ring

/-- The wide matrix's left half. -/
theorem side_left (a b : FVec Ideal S512x512 .f32) (k j : Fin 512) :
    (truncf .bf16
      (concatenate S512x1024 1 [⟨S512x512, a⟩, ⟨S512x512, b⟩] concatenates_S512x512_S512x512_S512x1024_d1)
      bitsLt_bf16_f32 : FVec Ideal S512x1024 .bf16) (ix2 k ⟨j.val, by omega⟩) = a (ix2 k j) := by
  pointwise

/-- The wide matrix's right half. -/
theorem side_right (a b : FVec Ideal S512x512 .f32) (k j : Fin 512) :
    (truncf .bf16
      (concatenate S512x1024 1 [⟨S512x512, a⟩, ⟨S512x512, b⟩] concatenates_S512x512_S512x512_S512x1024_d1)
      bitsLt_bf16_f32 : FVec Ideal S512x1024 .bf16) (ix2 k ⟨512 + j.val, by omega⟩) = b (ix2 k j) := by
  pointwise

/-- The wide band matrix holds the second difference's weights beside the sums of binomial weights. -/
theorem isLap : IsLap lapTable := by
  intro k j
  constructor
  · exact (side_left _ _ k j).trans (three_real k j)
  · refine (side_right _ _ k j).trans ((five_real (s := 1) ?_ ?_ ?_ k j).trans ?_)
    · rw [w_one]; norm_num
    · rw [w_four]; norm_num
    · rw [w_six]; norm_num
    · rw [mul_one]

end Cert.Proof

end

end
-- ==== Proof.Claims.lean ====
module
public import proofs.«01_k».proof.Defs
public import proofs.«01_k».proof.Proof.Finite
public import proofs.«01_k».proof.Proof.RefPick
public import proofs.«01_k».proof.Proof.Table.Values
public import proofs.«01_k».proof.Proof.Gen.Kernel.Frame
public import proofs.«01_k».proof.Proof.Gen.KernelIdeal.Value
public import proofs.«01_k».proof.Proof.Gen.ReferenceIdeal.Run
public import Idealize.ShloMosaic.Lib.Quiescent

/-! The claims: the three frames, the named constant, and the equality of the kernel's and the reference's results. -/

@[expose] public section

noncomputable section

namespace Cert.Proof

open Idealize.ShloMosaic Idealize.ShloMosaic.TcCoe Idealize.SL.Sem
open Cert.KernelIdeal.Stage (AllReal)

/-- The two results are one array: each pixel is that of the first frame of the largest focus measure. -/
theorem results_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (hV : V0 (Proc.devRef .tc Cert.ReferenceIdeal.main_arg0)
      = m ((c.tc : Thread Cert.KernelIdeal.nD Cert.KernelIdeal.τ).loc Cert.KernelIdeal.main_arg0))
    (hx : AllReal (s := Cert.KernelIdeal.S4x8x3x512x512)
      (m ((c.tc : Thread Cert.KernelIdeal.nD Cert.KernelIdeal.τ).loc Cert.KernelIdeal.main_arg0))) :
    Cert.ReferenceIdeal.Stage.result V0 = Cert.KernelIdeal.Value.G3 m c := by
  have at_ix : ∀ (b : Fin 4) (h : Fin 3) (r q : Fin 512),
      Cert.ReferenceIdeal.Stage.result V0 (ix4 b h r q) = Cert.KernelIdeal.Value.G3 m c (ix4 b h r q) := by
    intro b h r q
    rw [Cert.KernelIdeal.Stage.result_eq]
    obtain ⟨k, hk, hp⟩ := Cert.KernelIdeal.Stage.chosen_wins _ isGauss isLap hx b h r q
    rw [hp]
    exact Cert.ReferenceIdeal.Stage.result_apply V0 _ hV hx b h r q hk
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  exact at_ix _ _ _ _

theorem frame_p : Cert.quiescent_Kernel := fun m ρ _ => Cert.Kernel.Gen.frame m ρ

theorem frame_pi (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  Cert.KernelIdeal.Gen.frame m ρ

theorem frame_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "third" .f32 0x3EAAAAAB#32 ((1 / 3 : ℝ) : EReal) rfl

theorem algebraic [Cert.Pre_finite.Facts] : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  exact results_eq m c (StableHlo.launchContents m' c) (hagree c) (Cert.Pre_finite.Read.allReal _ (hpre c))

end Cert.Proof

end

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, Cert.Pre_finite.Read.facts,
    frame_p, fun m ρ _ => frame_pi m ρ, fun m ρ _ => frame_pi m ρ, fun m ρ _ => frame_ri m ρ, fun m ρ _ => frame_ri m ρ,
    preserves, @algebraic Cert.Pre_finite.Read.facts⟩

end Cert.Proof

end
